-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S256x2x128 Cert.KernelIdeal.S256x1x128
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S32x2x128 Cert.KernelIdeal.S32x1x128
  ∧ IdealRules.bf16_pair.SelectZeroStatement Cert.KernelIdeal.S32x128
  ∧ IdealRules.bf16_pair.Statement Cert.KernelIdeal.S64x128 Cert.KernelIdeal.S32x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S36x128x5120 : Shape := ⟨3, ![36, 128, 5120]⟩
abbrev S36x256x40 : Shape := ⟨3, ![36, 256, 40]⟩
abbrev S36x8x5120 : Shape := ⟨3, ![36, 8, 5120]⟩
abbrev S36x256x8 : Shape := ⟨3, ![36, 256, 8]⟩
abbrev S36x64x4x10x4 : Shape := ⟨5, ![36, 64, 4, 10, 4]⟩
abbrev S36x10x4x4x64 : Shape := ⟨5, ![36, 10, 4, 4, 64]⟩
abbrev S36x10x4x256 : Shape := ⟨4, ![36, 10, 4, 256]⟩
abbrev S1x36x1x10x1x4x1x256 : Shape := ⟨8, ![1, 36, 1, 10, 1, 4, 1, 256]⟩
abbrev S1x36x1x10x4x4x1x256 : Shape := ⟨8, ![1, 36, 1, 10, 4, 4, 1, 256]⟩
abbrev S36x10x16x256 : Shape := ⟨4, ![36, 10, 16, 256]⟩
abbrev S_ : Shape := ⟨0, ![]⟩
abbrev S36x64x4x8 : Shape := ⟨4, ![36, 64, 4, 8]⟩
abbrev S36x4x8x64 : Shape := ⟨4, ![36, 4, 8, 64]⟩
abbrev S4x4 : Shape := ⟨2, ![4, 4]⟩
abbrev S36x4x1x8x1x64 : Shape := ⟨6, ![36, 4, 1, 8, 1, 64]⟩
abbrev S1x1x4x1x4x1 : Shape := ⟨6, ![1, 1, 4, 1, 4, 1]⟩
abbrev S36x4x4x8x4x64 : Shape := ⟨6, ![36, 4, 4, 8, 4, 64]⟩
abbrev S36x128x256 : Shape := ⟨3, ![36, 128, 256]⟩
abbrev S36x10x8x256 : Shape := ⟨4, ![36, 10, 8, 256]⟩
abbrev S1x128x5120 : Shape := ⟨3, ![1, 128, 5120]⟩
abbrev S1x10x16x256 : Shape := ⟨4, ![1, 10, 16, 256]⟩
abbrev S1x8x5120 : Shape := ⟨3, ![1, 8, 5120]⟩
abbrev S1x128x256 : Shape := ⟨3, ![1, 128, 256]⟩
abbrev S1x10x8x256 : Shape := ⟨4, ![1, 10, 8, 256]⟩
abbrev S256x128 : Shape := ⟨2, ![256, 128]⟩
abbrev S512x256 : Shape := ⟨2, ![512, 256]⟩
abbrev S2x128x128 : Shape := ⟨3, ![2, 128, 128]⟩
abbrev S8x128 : Shape := ⟨2, ![8, 128]⟩
abbrev S1x8x128 : Shape := ⟨3, ![1, 8, 128]⟩
abbrev S32x128 : Shape := ⟨2, ![32, 128]⟩
abbrev S128x128 : Shape := ⟨2, ![128, 128]⟩
abbrev S1x128x128 : Shape := ⟨3, ![1, 128, 128]⟩
abbrev S64x128 : Shape := ⟨2, ![64, 128]⟩
abbrev S512x128 : Shape := ⟨2, ![512, 128]⟩
abbrev S1x1x16x256 : Shape := ⟨4, ![1, 1, 16, 256]⟩
abbrev S16x256 : Shape := ⟨2, ![16, 256]⟩
abbrev S128x256 : Shape := ⟨2, ![128, 256]⟩
abbrev S64x256 : Shape := ⟨2, ![64, 256]⟩
abbrev S16x128 : Shape := ⟨2, ![16, 128]⟩
abbrev S1x1x8x128 : Shape := ⟨4, ![1, 1, 8, 128]⟩
abbrev S1x16x128 : Shape := ⟨3, ![1, 16, 128]⟩

abbrev nBuf : Space → Nat
  | .hbm => 35
  | .vmem => 15
  | .smem => 0
  | _ => 0

abbrev bufTy : (tb : Table) → Fin (tcTables nBuf tb) → BufTy
  | .hbm, ⟨0, _⟩ => ⟨S36x128x5120, .i8⟩
  | .hbm, ⟨1, _⟩ => ⟨S36x256x40, .bf16⟩
  | .hbm, ⟨2, _⟩ => ⟨S36x8x5120, .bf16⟩
  | .hbm, ⟨3, _⟩ => ⟨S36x256x8, .bf16⟩
  | .hbm, ⟨4, _⟩ => ⟨S36x64x4x10x4, .bf16⟩
  | .hbm, ⟨5, _⟩ => ⟨S36x10x4x4x64, .bf16⟩
  | .hbm, ⟨6, _⟩ => ⟨S36x10x4x256, .bf16⟩
  | .hbm, ⟨7, _⟩ => ⟨S1x36x1x10x1x4x1x256, .bf16⟩
  | .hbm, ⟨8, _⟩ => ⟨S1x36x1x10x4x4x1x256, .bf16⟩
  | .hbm, ⟨9, _⟩ => ⟨S36x10x16x256, .bf16⟩
  | .hbm, ⟨10, _⟩ => ⟨S_, .bf16⟩
  | .hbm, ⟨11, _⟩ => ⟨S36x256x8, .bf16⟩
  | .hbm, ⟨12, _⟩ => ⟨S36x256x8, .bf16⟩
  | .hbm, ⟨13, _⟩ => ⟨S36x64x4x8, .bf16⟩
  | .hbm, ⟨14, _⟩ => ⟨S36x4x8x64, .bf16⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .bf16⟩
  | .hbm, ⟨22, _⟩ => ⟨S36x4x1x8x1x64, .bf16⟩
  | .hbm, ⟨23, _⟩ => ⟨S1x1x4x1x4x1, .bf16⟩
  | .hbm, ⟨24, _⟩ => ⟨S36x4x4x8x4x64, .bf16⟩
  | .hbm, ⟨25, _⟩ => ⟨S36x4x4x8x4x64, .bf16⟩
  | .hbm, ⟨26, _⟩ => ⟨S36x4x4x8x4x64, .bf16⟩
  | .hbm, ⟨27, _⟩ => ⟨S36x128x256, .bf16⟩
  | .hbm, ⟨28, _⟩ => ⟨S36x128x5120, .i8⟩
  | .hbm, ⟨29, _⟩ => ⟨S36x10x8x256, .f32⟩
  | .hbm, ⟨30, _⟩ => ⟨S36x10x4x256, .f32⟩
  | .hbm, ⟨31, _⟩ => ⟨S36x10x4x256, .bf16⟩
  | .hbm, ⟨32, _⟩ => ⟨S36x10x4x4x64, .bf16⟩
  | .hbm, ⟨33, _⟩ => ⟨S36x64x4x10x4, .bf16⟩
  | .hbm, ⟨34, _⟩ => ⟨S36x256x40, .bf16⟩
  | .local _ .vmem, ⟨0, _⟩ => ⟨S1x128x5120, .i8⟩
  | .local _ .vmem, ⟨1, _⟩ => ⟨S1x128x5120, .i8⟩
  | .local _ .vmem, ⟨2, _⟩ => ⟨S1x10x16x256, .bf16⟩
  | .local _ .vmem, ⟨3, _⟩ => ⟨S1x10x16x256, .bf16⟩
  | .local _ .vmem, ⟨4, _⟩ => ⟨S1x8x5120, .bf16⟩
  | .local _ .vmem, ⟨5, _⟩ => ⟨S1x8x5120, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x5120, .i8⟩
  | .local _ .vmem, ⟨9, _⟩ => ⟨S1x128x5120, .i8⟩
  | .local _ .vmem, ⟨10, _⟩ => ⟨S1x10x8x256, .f32⟩
  | .local _ .vmem, ⟨11, _⟩ => ⟨S1x10x8x256, .f32⟩
  | .local _ .vmem, ⟨12, _⟩ => ⟨S256x128, .i32⟩
  | .local _ .vmem, ⟨13, _⟩ => ⟨S512x256, .f32⟩
  | .local _ .vmem, ⟨14, _⟩ => ⟨S2x128x128, .i16⟩
  | _, _ => ⟨S36x128x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![36], ![false]⟩

@[reducible] def k0_t1_loop : Scf.Loop 32 :=
  let c0_i32_12 : BitVec 32 := 0#32
  let c10_i32 : BitVec 32 := 10#32
  let v53 : BitVec 32 := Scalar.addi c0_i32_12 c10_i32
  let c1_i32_13 : BitVec 32 := 1#32
  ⟨c0_i32_12, v53, c1_i32_13⟩
def k0_mult1 (k0_t1 : Fin k0_t1_loop.trips) : BitVec 32 :=
  let c0_i32_12 : BitVec 32 := 0#32
  let c1_i32_13 : BitVec 32 := 1#32
  let arg10 : BitVec 32 := Scf.iv c0_i32_12 c1_i32_13 k0_t1
  let c512_i32 : BitVec 32 := 512#32
  let v54 : BitVec 32 := Scalar.muli arg10 c512_i32
  v54
def k0_off1 (k0_t1 : Fin k0_t1_loop.trips) (c0_i32_15 : BitVec 32) : Fin 3 → Nat :=
  let c0 : Index := 0#32
  let c0_16 : Index := 0#32
  let c0_i32_12 : BitVec 32 := 0#32
  let c1_i32_13 : BitVec 32 := 1#32
  let arg10 : BitVec 32 := Scf.iv c0_i32_12 c1_i32_13 k0_t1
  let c512_i32 : BitVec 32 := 512#32
  let v54 : BitVec 32 := Scalar.muli arg10 c512_i32
  let v55 : BitVec 32 := v54
  let v56 : BitVec 32 := Scalar.addi v55 c0_i32_15
  let v57 : Index := Scalar.indexCast v56
  ![0, 0, v57.toNat]
def k0_off2 (k0_t1 : Fin k0_t1_loop.trips) (c0_i32_26 : BitVec 32) : Fin 3 → Nat :=
  let c0_27 : Index := 0#32
  let c0_28 : Index := 0#32
  let c0_i32_12 : BitVec 32 := 0#32
  let c1_i32_13 : BitVec 32 := 1#32
  let arg10 : BitVec 32 := Scf.iv c0_i32_12 c1_i32_13 k0_t1
  let c512_i32 : BitVec 32 := 512#32
  let v54 : BitVec 32 := Scalar.muli arg10 c512_i32
  let v55 : BitVec 32 := v54
  let v86 : BitVec 32 := Scalar.addi v55 c0_i32_26
  let v87 : Index := Scalar.indexCast v86
  ![0, 0, v87.toNat]
def k0_off3 (k0_t1 : Fin k0_t1_loop.trips) : Fin 4 → Nat :=
  let c0_46 : Index := 0#32
  let c0_i32_12 : BitVec 32 := 0#32
  let c1_i32_13 : BitVec 32 := 1#32
  let arg10 : BitVec 32 := Scf.iv c0_i32_12 c1_i32_13 k0_t1
  let v156 : Index := Scalar.indexCast arg10
  let c0_47 : Index := 0#32
  let c0_48 : Index := 0#32
  ![0, v156.toNat, 0, 0]
def k0_off4 (k0_t1 : Fin k0_t1_loop.trips) : Fin 4 → Nat :=
  let c0_162 : Index := 0#32
  let c0_i32_12 : BitVec 32 := 0#32
  let c1_i32_13 : BitVec 32 := 1#32
  let arg10 : BitVec 32 := Scf.iv c0_i32_12 c1_i32_13 k0_t1
  let v865 : Index := Scalar.indexCast arg10
  let c0_163 : Index := 0#32
  let c0_164 : Index := 0#32
  ![0, v865.toNat, 0, 0]
def k0_off5 (k0_t1 : Fin k0_t1_loop.trips) : Fin 4 → Nat :=
  let c0_309 : Index := 0#32
  let c0_i32_12 : BitVec 32 := 0#32
  let c1_i32_13 : BitVec 32 := 1#32
  let arg10 : BitVec 32 := Scf.iv c0_i32_12 c1_i32_13 k0_t1
  let v1268 : Index := Scalar.indexCast arg10
  let c0_310 : Index := 0#32
  let c128_311 : Index := 128#32
  ![0, v1268.toNat, 0, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x5120 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x5120 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x10x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S256x2x128 : Shape := ⟨3, ![256, 2, 128]⟩
abbrev S256x1x128 : Shape := ⟨3, ![256, 1, 128]⟩
abbrev S128x2x128 : Shape := ⟨3, ![128, 2, 128]⟩
abbrev S128x1x128 : Shape := ⟨3, ![128, 1, 128]⟩
abbrev S32x2x128 : Shape := ⟨3, ![32, 2, 128]⟩
abbrev S32x1x128 : Shape := ⟨3, ![32, 1, 128]⟩
  | .local _ .vmem, ⟨12, _⟩ => ⟨S256x2x128, .bf16⟩
variable {F : FTy → Type} [FloatOps F]
-- ==== ReferenceIdeal.lean ====
abbrev S36x128x5120 : Shape := ⟨3, ![36, 128, 5120]⟩
abbrev S36x256x40 : Shape := ⟨3, ![36, 256, 40]⟩
abbrev S36x8x5120 : Shape := ⟨3, ![36, 8, 5120]⟩
abbrev S36x256x8 : Shape := ⟨3, ![36, 256, 8]⟩
abbrev S2 : Shape := ⟨1, ![2]⟩
abbrev S_ : Shape := ⟨0, ![]⟩
abbrev S1x1x2x1 : Shape := ⟨4, ![1, 1, 2, 1]⟩
abbrev S36x128x1x5120 : Shape := ⟨4, ![36, 128, 1, 5120]⟩
abbrev S36x128x2x5120 : Shape := ⟨4, ![36, 128, 2, 5120]⟩
abbrev S36x128x2x40 : Shape := ⟨4, ![36, 128, 2, 40]⟩
abbrev S36x128x2x40x128 : Shape := ⟨5, ![36, 128, 2, 40, 128]⟩
abbrev S36x128x2x40x1 : Shape := ⟨5, ![36, 128, 2, 40, 1]⟩
abbrev S36x128x2x8 : Shape := ⟨4, ![36, 128, 2, 8]⟩
abbrev S36x8x40x128 : Shape := ⟨4, ![36, 8, 40, 128]⟩

abbrev nBuf : Space → Nat
  | .hbm => 79
  | .vmem => 0
  | .smem => 0
  | _ => 0

abbrev bufTy : (tb : Table) → Fin (tcTables nBuf tb) → BufTy
  | .hbm, ⟨0, _⟩ => ⟨S36x128x5120, .i8⟩
  | .hbm, ⟨1, _⟩ => ⟨S36x256x40, .bf16⟩
  | .hbm, ⟨2, _⟩ => ⟨S36x8x5120, .bf16⟩
  | .hbm, ⟨3, _⟩ => ⟨S36x256x8, .bf16⟩
  | .hbm, ⟨4, _⟩ => ⟨S36x128x5120, .i32⟩
  | .hbm, ⟨5, _⟩ => ⟨S2, .i32⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i32⟩
  | .hbm, ⟨12, _⟩ => ⟨S1x1x2x1, .i32⟩
  | .hbm, ⟨13, _⟩ => ⟨S36x128x1x5120, .i32⟩
  | .hbm, ⟨14, _⟩ => ⟨S36x128x2x5120, .i32⟩
  | .hbm, ⟨15, _⟩ => ⟨S36x128x2x5120, .i32⟩
  | .hbm, ⟨16, _⟩ => ⟨S36x128x2x5120, .i32⟩
  | .hbm, ⟨17, _⟩ => ⟨S_, .i32⟩
  | .hbm, ⟨18, _⟩ => ⟨S36x128x2x5120, .i32⟩
  | .hbm, ⟨19, _⟩ => ⟨S36x128x2x5120, .i32⟩
  | .hbm, ⟨20, _⟩ => ⟨S36x128x2x40, .bf16⟩
  | .hbm, ⟨21, _⟩ => ⟨S36x128x2x5120, .bf16⟩
  | .hbm, ⟨22, _⟩ => ⟨S36x128x2x40x128, .bf16⟩
  | .hbm, ⟨23, _⟩ => ⟨S36x128x2x40x1, .bf16⟩
  | .hbm, ⟨24, _⟩ => ⟨S36x128x2x40x128, .bf16⟩
  | .hbm, ⟨25, _⟩ => ⟨S36x128x2x40x128, .bf16⟩
  | .hbm, ⟨26, _⟩ => ⟨S36x128x2x8, .bf16⟩
  | .hbm, ⟨27, _⟩ => ⟨S36x8x40x128, .bf16⟩
  | .hbm, ⟨28, _⟩ => ⟨S36x128x2x40x128, .f32⟩
  | .hbm, ⟨29, _⟩ => ⟨S36x128x2x40x128, .f32⟩
  | .hbm, ⟨30, _⟩ => ⟨S_, .f32⟩
  | .hbm, ⟨31, _⟩ => ⟨S36x128x2x40x128, .f32⟩
  | .hbm, ⟨32, _⟩ => ⟨S36x128x2x40x128, .f32⟩
  | .hbm, ⟨33, _⟩ => ⟨S36x128x2x40x128, .f32⟩
  | .hbm, ⟨34, _⟩ => ⟨S36x128x2x40x128, .f32⟩
  | .hbm, ⟨35, _⟩ => ⟨S_, .f32⟩
  | .hbm, ⟨36, _⟩ => ⟨S36x128x2x40, .f32⟩
  | .hbm, ⟨37, _⟩ => ⟨S_, .f32⟩
  | .hbm, ⟨38, _⟩ => ⟨S36x128x2x40, .f32⟩
  | .hbm, ⟨39, _⟩ => ⟨S36x128x2x40, .i1⟩
  | .hbm, ⟨40, _⟩ => ⟨S_, .f32⟩
  | .hbm, ⟨41, _⟩ => ⟨S36x128x2x40, .f32⟩
  | .hbm, ⟨42, _⟩ => ⟨S36x128x2x40, .f32⟩
  | .hbm, ⟨43, _⟩ => ⟨S_, .f32⟩
  | .hbm, ⟨44, _⟩ => ⟨S_, .f32⟩
  | .hbm, ⟨45, _⟩ => ⟨S36x128x2x40, .f32⟩
  | .hbm, ⟨46, _⟩ => ⟨S36x128x2x40, .f32⟩
  | .hbm, ⟨47, _⟩ => ⟨S36x128x2x40, .bf16⟩
  | .hbm, ⟨48, _⟩ => ⟨S36x128x2x40, .f32⟩
  | .hbm, ⟨49, _⟩ => ⟨S36x128x2x40x1, .f32⟩
  | .hbm, ⟨50, _⟩ => ⟨S36x128x2x40x128, .f32⟩
  | .hbm, ⟨51, _⟩ => ⟨S36x128x2x40x128, .f32⟩
  | .hbm, ⟨52, _⟩ => ⟨S36x128x2x40x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S36x128x2x40x128, .f32⟩
  | .hbm, ⟨57, _⟩ => ⟨S36x128x2x40x128, .f32⟩
  | .hbm, ⟨58, _⟩ => ⟨S_, .f32⟩
  | .hbm, ⟨59, _⟩ => ⟨S36x128x2x40x128, .f32⟩
  | .hbm, ⟨60, _⟩ => ⟨S36x128x2x40x128, .f32⟩
  | .hbm, ⟨61, _⟩ => ⟨S36x128x2x40x128, .i32⟩
  | .hbm, ⟨62, _⟩ => ⟨S36x128x2x5120, .i32⟩
  | .hbm, ⟨63, _⟩ => ⟨S36x128x1x5120, .i32⟩
  | .hbm, ⟨64, _⟩ => ⟨S36x128x5120, .i32⟩
  | .hbm, ⟨65, _⟩ => ⟨S36x128x1x5120, .i32⟩
  | .hbm, ⟨66, _⟩ => ⟨S36x128x5120, .i32⟩
  | .hbm, ⟨67, _⟩ => ⟨S_, .i32⟩
  | .hbm, ⟨68, _⟩ => ⟨S36x128x5120, .i32⟩
  | .hbm, ⟨69, _⟩ => ⟨S36x128x5120, .i32⟩
  | .hbm, ⟨70, _⟩ => ⟨S_, .i32⟩
  | .hbm, ⟨71, _⟩ => ⟨S36x128x5120, .i32⟩
  | .hbm, ⟨72, _⟩ => ⟨S36x128x5120, .i32⟩
  | .hbm, ⟨73, _⟩ => ⟨S_, .i32⟩
  | .hbm, ⟨74, _⟩ => ⟨S36x128x5120, .i32⟩
  | .hbm, ⟨75, _⟩ => ⟨S36x128x5120, .i32⟩
  | .hbm, ⟨76, _⟩ => ⟨S36x128x5120, .i32⟩
  | .hbm, ⟨77, _⟩ => ⟨S36x128x5120, .i8⟩
  | .hbm, ⟨78, _⟩ => ⟨S36x256x40, .bf16⟩
  | _, _ => ⟨S36x128x5120, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_cst_7 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.Bits.Trip.lean ====
/-
  One trip of the kernel as printed's counted loop (untrusted, hand-written): run once at a symbolic trip over symbolic
  memrefs. What it leaves in the two output blocks and in the three scratch buffers is read off the run as lists of
  pieces.
-/
module

public import proofs.«01_k».proof.Proof.Gen.Kernel.Loops
public import proofs.«01_k».proof.Proof.Gen.Kernel.Frame

@[expose] public section

set_option maxRecDepth 16384

noncomputable section

namespace Cert.Proof.PK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What a core's buffer behind a memref holds. -/
abbrev Cts (F : FTy → Type) (c : Dev nD) {sp : Space} {S : Shape} {e : EltTy} (M : Memref sig .tc sp S e) : Type :=
  Buf (Elt F) (M.view.loc (c : Thread nD τ))

/-- What one trip holds: the four input blocks, the two output blocks and the three scratch buffers. -/
abbrev Held (c : Dev nD)
    (arg1 : Memref sig .tc .vmem S1x128x5120 .i8) (arg2 : Memref sig .tc .vmem S1x10x16x256 .bf16)
    (arg3 : Memref sig .tc .vmem S1x8x5120 .bf16) (arg4 : Memref sig .tc .vmem S1x128x256 .bf16)
    (arg5 : Memref sig .tc .vmem S1x128x5120 .i8) (arg6 : Memref sig .tc .vmem S1x10x8x256 .f32)
    (arg7 : Memref sig .tc .vmem S256x128 .i32) (arg8 : Memref sig .tc .vmem S512x256 .f32)
    (arg9 : Memref sig .tc .vmem S2x128x128 .i16)
    (f1 : Cts F c arg1) (f2 : Cts F c arg2) (f3 : Cts F c arg3) (f4 : Cts F c arg4) (f5 : Cts F c arg5)
    (f6 : Cts F c arg6) (f7 : Cts F c arg7) (f8 : Cts F c arg8) (f9 : Cts F c arg9) : sProp 𝕄 :=
  iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9))

/-- ONE TRIP: the pieces it writes into the two output blocks and the scratch buffers, with the proof that the loop's
    region takes the buffers to those pieces written over what they held. -/
def trip (c : Dev nD) (i : grid0.Coords)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x128 .i32) (harg7 : arg7.IsWhole) (arg8 : Memref sig .tc .vmem S512x256 .f32) (harg8 : arg8.IsWhole)
    (arg9 : Memref sig .tc .vmem S2x128x128 .i16) (harg9 : arg9.IsWhole)
    (v25 : IVec S8x128 32) (v43 : IVec S8x128 32) (v44 : IVec S8x128 1) (k : Fin k0_t1_loop.trips)
    (f1 : Cts F c arg1) (f2 : Cts F c arg2) (f3 : Cts F c arg3) (f4 : Cts F c arg4) (f7 : Cts F c arg7)
    (f8 : Cts F c arg8) (f9 : Cts F c arg9) :
    Σ' (L5 : List (View.Piece (Elt F) S1x128x5120 .i8)) (L6 : List (View.Piece (Elt F) S1x10x8x256 .f32))
      (L7 : List (View.Piece (Elt F) S256x128 .i32)) (L8 : List (View.Piece (Elt F) S512x256 .f32)),
      { L9 : List (View.Piece (Elt F) S2x128x128 .i16) // ∀ (E : Set ℕ) (f5 : Cts F c arg5) (f6 : Cts F c arg6),
        Held c arg1 arg2 arg3 arg4 arg5 arg6 arg7 arg8 arg9 f1 f2 f3 f4 f5 f6 f7 f8 f9
          ⊢ wp frame (wpE (defs₀ (F := F)) Variants.none (c : Thread nD τ) none) E
              (k0_t1_body (F := F) i arg1 harg1 arg2 harg2 arg3 harg3 arg4 harg4 arg5 harg5 arg6 harg6 arg7 harg7 arg8 harg8 arg9 harg9 v25 v43 v44 k ())
              (fun _ => Held c arg1 arg2 arg3 arg4 arg5 arg6 arg7 arg8 arg9 f1 f2 f3 f4
                (arg5.view.writes (Elt F) f5 L5) (arg6.view.writes (Elt F) f6 L6) (arg7.view.writes (Elt F) f7 L7) (arg8.view.writes (Elt F) f8 L8) (arg9.view.writes (Elt F) f9 L9)) } := by
  refine ⟨?_, ?_, ?_, ?_, ?_, fun E f5 f6 => ?run⟩
  case run =>
    unfold k0_t1_body
    iintro ⟨H1, H2, H3, H4, H5, H6, H7, H8, H9⟩
    sl_exec_parts
    sl_step
    sl_close

end Cert.Proof.PK

end
-- ==== Proof.Bits.Kernel.lean ====
/-
  The kernel as printed's body (untrusted, hand-written): its counted loop by an invariant that says of the two output
  blocks what the caller asks, provided one trip (Trip.lean) takes it from one trip to the next; then the whole body.
-/
module

public import proofs.«01_k».proof.Proof.Bits.Trip

@[expose] public section

set_option maxRecDepth 16384

noncomputable section

namespace Cert.Proof.PK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

section
variable (c : Dev nD) (i : grid0.Coords)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x128 .i32) (harg7 : arg7.IsWhole) (arg8 : Memref sig .tc .vmem S512x256 .f32) (harg8 : arg8.IsWhole)
    (arg9 : Memref sig .tc .vmem S2x128x128 .i16) (harg9 : arg9.IsWhole)

/-- What the loop holds before a trip: the inputs as they are, the outputs at contents of which `P` holds, the scratch
    buffers at some contents. -/
abbrev Inv (f1 : Cts F c arg1) (f2 : Cts F c arg2) (f3 : Cts F c arg3) (f4 : Cts F c arg4)
    (P : ℕ → Cts F c arg5 → Cts F c arg6 → Prop) (k : ℕ) : sProp 𝕄 :=
  iprop(∃ (f5 : Cts F c arg5) (f6 : Cts F c arg6) (f7 : Cts F c arg7) (f8 : Cts F c arg8) (f9 : Cts F c arg9),
    ⌜P k f5 f6⌝ ∗ Held c arg1 arg2 arg3 arg4 arg5 arg6 arg7 arg8 arg9 f1 f2 f3 f4 f5 f6 f7 f8 f9)

/-- One trip takes `P` to the next trip. -/
abbrev Keeps (v25 : IVec S8x128 32) (v43 : IVec S8x128 32) (v44 : IVec S8x128 1)
    (f1 : Cts F c arg1) (f2 : Cts F c arg2) (f3 : Cts F c arg3) (f4 : Cts F c arg4)
    (P : ℕ → Cts F c arg5 → Cts F c arg6 → Prop) : Prop :=
  ∀ (k : Fin k0_t1_loop.trips) (f5 : Cts F c arg5) (f6 : Cts F c arg6) (f7 : Cts F c arg7) (f8 : Cts F c arg8) (f9 : Cts F c arg9),
    P k.val f5 f6 → P (k.val + 1)
      (arg5.view.writes (Elt F) f5 (trip c i arg1 harg1 arg2 harg2 arg3 harg3 arg4 harg4 arg5 harg5 arg6 harg6 arg7 harg7 arg8 harg8 arg9 harg9 v25 v43 v44 k f1 f2 f3 f4 f7 f8 f9).1)
      (arg6.view.writes (Elt F) f6 (trip c i arg1 harg1 arg2 harg2 arg3 harg3 arg4 harg4 arg5 harg5 arg6 harg6 arg7 harg7 arg8 harg8 arg9 harg9 v25 v43 v44 k f1 f2 f3 f4 f7 f8 f9).2.1)

/-- The loop's invariant. -/
@[instance_reducible] def loopInv (E : Set ℕ) (v25 : IVec S8x128 32) (v43 : IVec S8x128 32) (v44 : IVec S8x128 1)
    (f1 : Cts F c arg1) (f2 : Cts F c arg2) (f3 : Cts F c arg3) (f4 : Cts F c arg4)
    (P : ℕ → Cts F c arg5 → Cts F c arg6 → Prop)
    (hP : Keeps c i arg1 harg1 arg2 harg2 arg3 harg3 arg4 harg4 arg5 harg5 arg6 harg6 arg7 harg7 arg8 harg8 arg9 harg9 v25 v43 v44 f1 f2 f3 f4 P) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v25 v43 v44 where
  inv k _ := Inv c arg1 arg2 arg3 arg4 arg5 arg6 arg7 arg8 arg9 f1 f2 f3 f4 P k
  step k acc := by
    iintro ⟨%f5, %f6, %f7, %f8, %f9, %hk, HW⟩
    iapply (wp_wand_r Idealize.ShloMosaic.frame (wpE (defs₀ (F := F)) Variants.none (c : Thread nD τ) none) E)
    isplitl [HW]
    · iapply ((trip c i arg1 harg1 arg2 harg2 arg3 harg3 arg4 harg4 arg5 harg5 arg6 harg6 arg7 harg7 arg8 harg8 arg9 harg9 v25 v43 v44 k f1 f2 f3 f4 f7 f8 f9).2.2.2.2.2 E f5 f6)
      iexact HW
    · iintro %_ HW
      iexists _; iexists _; iexists _; iexists _; iexists _
      isplitr [HW]
      · ipureintro; exact hP k f5 f6 f7 f8 f9 hk
      · iexact HW

/-- THE BODY: from the nine buffers held, it runs to the same buffers, the inputs unchanged and the outputs at contents
    of which `P` holds after the last trip. -/
theorem body_run (E : Set ℕ)
    (f1 : Cts F c arg1) (f2 : Cts F c arg2) (f3 : Cts F c arg3) (f4 : Cts F c arg4)
    (P : ℕ → Cts F c arg5 → Cts F c arg6 → Prop) (h0 : ∀ f5 f6, P 0 f5 f6)
    (hP : Keeps c i arg1 harg1 arg2 harg2 arg3 harg3 arg4 harg4 arg5 harg5 arg6 harg6 arg7 harg7 arg8 harg8 arg9 harg9 k0_pay151 k0_pay152 k0_pay153 f1 f2 f3 f4 P)
    (f5 : Cts F c arg5) (f6 : Cts F c arg6) (f7 : Cts F c arg7) (f8 : Cts F c arg8) (f9 : Cts F c arg9) :
    Held c arg1 arg2 arg3 arg4 arg5 arg6 arg7 arg8 arg9 f1 f2 f3 f4 f5 f6 f7 f8 f9
      ⊢ wp frame (wpE (defs₀ (F := F)) Variants.none (c : Thread nD τ) none) E
          (cc0_lora_merge_int4 (F := F) i arg1 harg1 arg2 harg2 arg3 harg3 arg4 harg4 arg5 harg5 arg6 harg6 arg7 harg7 arg8 harg8 arg9 harg9)
          (fun _ => Inv c arg1 arg2 arg3 arg4 arg5 arg6 arg7 arg8 arg9 f1 f2 f3 f4 P k0_t1_loop.trips) := by
  have hI : Held c arg1 arg2 arg3 arg4 arg5 arg6 arg7 arg8 arg9 f1 f2 f3 f4 f5 f6 f7 f8 f9 ⊢ Inv c arg1 arg2 arg3 arg4 arg5 arg6 arg7 arg8 arg9 f1 f2 f3 f4 P 0 := by
    iintro HW
    iexists f5; iexists f6; iexists f7; iexists f8; iexists f9
    isplitr [HW]
    · ipureintro; exact h0 f5 f6
    · iexact HW
  iintro HW
  ihave HI := hI $$ HW
  rw [cc0_lora_merge_int4_eq_skeleton]
  unfold cc0_lora_merge_int4_skel
  rw [k0_part36_eq_skeleton]
  unfold k0_part36_skel
  simp only [pure_bind]
  ihave Hk := exec_loop Idealize.ShloMosaic.frame (wpE (defs₀ (F := F)) Variants.none (c : Thread nD τ) none) E
    k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 k0_pay151 k0_pay152 k0_pay153)
    (loopInv (F := F) c i arg1 harg1 arg2 harg2 arg3 harg3 arg4 harg4 arg5 harg5 arg6 harg6 arg7 harg7 arg8 harg8 arg9 harg9 E k0_pay151 k0_pay152 k0_pay153 f1 f2 f3 f4 P hP)
    $$ HI
  iapply Hk
  iintro %_ HI
  sl_step
  iexact HI
end

end Cert.Proof.PK

end
-- ==== Proof.Bits.Frame.lean ====
/-
  The kernel as printed runs and keeps its arguments (untrusted, hand-written): the pipeline's proof data with the two
  outputs left unnamed, its body obligation at every grid point, the run of @main and the frame read off it.
-/
module

public import proofs.«01_k».proof.Proof.Bits.Kernel

@[expose] public section

set_option maxRecDepth 16384

noncomputable section

namespace Cert.Proof.PK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The body on whole memrefs: the inputs' read contents stay, the outputs and the scratch buffers end at some contents. -/
theorem sound_kernel (c : Dev nD) (i : grid0.Coords) (E : Set ℕ)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x128 .i32) (harg7 : arg7.IsWhole) (arg8 : Memref sig .tc .vmem S512x256 .f32) (harg8 : arg8.IsWhole)
    (arg9 : Memref sig .tc .vmem S2x128x128 .i16) (harg9 : arg9.IsWhole)
    (x1 : Vec F S1x128x5120 .i8) (x2 : Vec F S1x10x16x256 .bf16) (x3 : Vec F S1x8x5120 .bf16) (x4 : Vec F S1x128x256 .bf16)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E
          (cc0_lora_merge_int4 (F := F) i arg1 harg1 arg2 harg2 arg3 harg3 arg4 harg4 arg5 harg5 arg6 harg6 arg7 harg7 arg8 harg8 arg9 harg9) K := by
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  iapply (wp_wand_r Idealize.ShloMosaic.frame (wpE (defs₀ (F := F)) Variants.none (c : Thread nD τ) none) E)
  isplitr [Hk]
  · iapply (body_run (F := F) c i arg1 harg1 arg2 harg2 arg3 harg3 arg4 harg4 arg5 harg5 arg6 harg6 arg7 harg7 arg8 harg8 arg9 harg9 E
      f1 f2 f3 f4 (fun _ _ _ => True) (fun _ _ => trivial) (fun _ _ _ _ _ _ _ => trivial) f5 f6 f7 f8 f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨%g5, %g6, %g7, %g8, %g9, -, H1, H2, H3, H4, H5, H6, H7, H8, H9⟩
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; iexists g5; isplitr; · ipureintro; rfl
      iexact H5
    isplitl [H6]
    · iexists _; iexists g6; isplitr; · ipureintro; rfl
      iexact H6
    isplitl [H7]
    · iexists _; iexists g7; isplitr; · ipureintro; rfl
      iexact H7
    isplitl [H8]
    · iexists _; iexists g8; isplitr; · ipureintro; rfl
      iexact H8
    iexists _; iexists g9; isplitr; · ipureintro; rfl
    iexact H9

variable (m : (ℓ : Loc nD τ sig) → Buf (Elt F) ℓ) (ρ : Dev nD → PrngReg)

/-- The proof data: each input's buffer at its block, the two outputs unnamed, the scoped rest in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
    | ⟨5, _⟩ => Dat.unnamed 5 t
  Φ _ := Pipeline.ΦA spec0 c
  q _ := fullShare
  owed _ := 0

/-- The outputs are the windows left unnamed. -/
def forgets : Fin 6 → Bool := fun w => w.val == 4 || w.val == 5

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  iintro ⟨⟨⟨HS0, HS1, HS2⟩, HP⟩, Ho, ⟨%d0, H0⟩, ⟨%d1, H1⟩, ⟨%d2, H2⟩, ⟨%d3, H3⟩, H4, H5⟩
  iapply (sound_kernel c (grid0.coords t) Set.univ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 HP]
  · isplitl [HS0 HS1 HS2]
    · isplitl [HS0]; · iexact HS0
      isplitl [HS1]; · iexact HS1
      iexact HS2
    · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the outputs forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- The buffers the host lines after the region write. -/
def tailT : Finset (Ref sig .tc) := {main_v23, main_v24, main_v25, main_v26, main_v27}

theorem tailT_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl | rfl | rfl <;>
    simp only [StableHlo.nullary_writes, StableHlo.unary_writes, StableHlo.binary_writes, StableHlo.reshape_writes, Finset.mem_singleton] at hb <;>
    (have hb' := Proc.devRef_injective _ hb; subst hb'; decide)

set_option backward.isDefEq.respectTransparency.types false in
/-- The run of @main: the pipeline's inputs and every buffer the tail does not write end as the region found them, and
    every semaphore counter is zero. -/
theorem run_main : θ_run defs (onTc (τ := τ) (main (F := F))) (s₀ m ρ)
    (fun r => Pipeline.RDat.FramePostR cfg0 (fun c => (dats m 0 c).toRForget forgets) tailT (fun c b => V0 m c (Proc.devRef .tc b)) r ∧ r.2.sem = fun _ => 0) :=
  Pipeline.θ_run_frame_around_T_forget (Q' := _) cfgs (dats m) (0 : Fin 1) launch0 defs₀ Variants.none forgets tailT m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tailT_writes) (hmain := hmain m Variants.none) (hA := A_eq m) (hΦ := fun _ _ => rfl)

/-- THE FRAME of the kernel as printed. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1.arr_in c 0 rfl).trans (V_main_arg0 m c),
     ((h.1 c).2 main_arg1 (Finset.mem_sdiff.mpr ⟨Pipeline.mem_restRefs_of main_arg1 (by decide) (by decide), by decide⟩)).trans (V_main_arg1 m c),
     (h.1.arr_in c 2 rfl).trans (V_main_arg2 m c),
     ((h.1 c).2 main_arg3 (Finset.mem_sdiff.mpr ⟨Pipeline.mem_restRefs_of main_arg3 (by decide) (by decide), by decide⟩)).trans (V_main_arg3 m c)⟩, h.2⟩)
    (run_main m ρ)

end Cert.Proof.PK

end
-- ==== Proof.Ideal.Trip.lean ====
/-
  One trip of the idealized kernel's counted loop (untrusted, hand-written): run once at a symbolic trip over symbolic
  memrefs. What it leaves in the two output blocks and in the three scratch buffers is read off the run as lists of
  pieces.
-/
module

public import proofs.«01_k».proof.Proof.Gen.KernelIdeal.Loops
public import proofs.«01_k».proof.Proof.Gen.KernelIdeal.Frame

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a core's buffer behind a memref holds. -/
abbrev Cts (F : FTy → Type) (c : Dev nD) {sp : Space} {S : Shape} {e : EltTy} (M : Memref sig .tc sp S e) : Type :=
  Buf (Elt F) (M.view.loc (c : Thread nD τ))

/-- What one trip holds: the four input blocks, the two output blocks and the three scratch buffers. -/
abbrev Held (c : Dev nD)
    (arg1 : Memref sig .tc .vmem S1x128x5120 .i8) (arg2 : Memref sig .tc .vmem S1x10x16x256 .bf16)
    (arg3 : Memref sig .tc .vmem S1x8x5120 .bf16) (arg4 : Memref sig .tc .vmem S1x128x256 .bf16)
    (arg5 : Memref sig .tc .vmem S1x128x5120 .i8) (arg6 : Memref sig .tc .vmem S1x10x8x256 .f32)
    (arg7 : Memref sig .tc .vmem S256x2x128 .bf16) (arg8 : Memref sig .tc .vmem S512x256 .f32)
    (arg9 : Memref sig .tc .vmem S2x128x128 .i16)
    (f1 : Cts F c arg1) (f2 : Cts F c arg2) (f3 : Cts F c arg3) (f4 : Cts F c arg4) (f5 : Cts F c arg5)
    (f6 : Cts F c arg6) (f7 : Cts F c arg7) (f8 : Cts F c arg8) (f9 : Cts F c arg9) : sProp 𝕄 :=
  iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9))

/-- ONE TRIP: the pieces it writes into the two output blocks and the scratch buffers, with the proof that the loop's
    region takes the buffers to those pieces written over what they held. -/
def trip (c : Dev nD) (i : grid0.Coords)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x2x128 .bf16) (harg7 : arg7.IsWhole) (arg8 : Memref sig .tc .vmem S512x256 .f32) (harg8 : arg8.IsWhole)
    (arg9 : Memref sig .tc .vmem S2x128x128 .i16) (harg9 : arg9.IsWhole)
    (v25 : IVec S8x128 32) (v43 : IVec S8x128 32) (v44 : IVec S8x128 1) (k : Fin k0_t1_loop.trips)
    (f1 : Cts F c arg1) (f2 : Cts F c arg2) (f3 : Cts F c arg3) (f4 : Cts F c arg4) (f7 : Cts F c arg7)
    (f8 : Cts F c arg8) (f9 : Cts F c arg9) :
    Σ' (L5 : List (View.Piece (Elt F) S1x128x5120 .i8)) (L6 : List (View.Piece (Elt F) S1x10x8x256 .f32))
      (L7 : List (View.Piece (Elt F) S256x2x128 .bf16)) (L8 : List (View.Piece (Elt F) S512x256 .f32)),
      { L9 : List (View.Piece (Elt F) S2x128x128 .i16) // ∀ (E : Set ℕ) (f5 : Cts F c arg5) (f6 : Cts F c arg6),
        Held c arg1 arg2 arg3 arg4 arg5 arg6 arg7 arg8 arg9 f1 f2 f3 f4 f5 f6 f7 f8 f9
          ⊢ wp frame (wpE (defs₀ (F := F)) Variants.none (c : Thread nD τ) none) E
              (k0_t1_body (F := F) i arg1 harg1 arg2 harg2 arg3 harg3 arg4 harg4 arg5 harg5 arg6 harg6 arg7 harg7 arg8 harg8 arg9 harg9 v25 v43 v44 k ())
              (fun _ => Held c arg1 arg2 arg3 arg4 arg5 arg6 arg7 arg8 arg9 f1 f2 f3 f4
                (arg5.view.writes (Elt F) f5 L5) (arg6.view.writes (Elt F) f6 L6) (arg7.view.writes (Elt F) f7 L7) (arg8.view.writes (Elt F) f8 L8) (arg9.view.writes (Elt F) f9 L9)) } := by
  refine ⟨?_, ?_, ?_, ?_, ?_, fun E f5 f6 => ?run⟩
  case run =>
    unfold k0_t1_body
    iintro ⟨H1, H2, H3, H4, H5, H6, H7, H8, H9⟩
    sl_exec_parts
    sl_step
    sl_close

end Cert.Proof.PI

end
-- ==== Proof.Ideal.Kernel.lean ====
/-
  The idealized kernel's body (untrusted, hand-written): its counted loop by an invariant that says of the two output
  blocks what the caller asks, provided one trip (Trip.lean) takes it from one trip to the next; then the whole body.
-/
module

public import proofs.«01_k».proof.Proof.Ideal.Trip

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x2x128 .bf16) (harg7 : arg7.IsWhole) (arg8 : Memref sig .tc .vmem S512x256 .f32) (harg8 : arg8.IsWhole)
    (arg9 : Memref sig .tc .vmem S2x128x128 .i16) (harg9 : arg9.IsWhole)

/-- What the loop holds before a trip: the inputs as they are, the outputs at contents of which `P` holds, the scratch
    buffers at some contents. -/
abbrev Inv (f1 : Cts F c arg1) (f2 : Cts F c arg2) (f3 : Cts F c arg3) (f4 : Cts F c arg4)
    (P : ℕ → Cts F c arg5 → Cts F c arg6 → Prop) (k : ℕ) : sProp 𝕄 :=
  iprop(∃ (f5 : Cts F c arg5) (f6 : Cts F c arg6) (f7 : Cts F c arg7) (f8 : Cts F c arg8) (f9 : Cts F c arg9),
    ⌜P k f5 f6⌝ ∗ Held c arg1 arg2 arg3 arg4 arg5 arg6 arg7 arg8 arg9 f1 f2 f3 f4 f5 f6 f7 f8 f9)

/-- One trip takes `P` to the next trip. -/
abbrev Keeps (v25 : IVec S8x128 32) (v43 : IVec S8x128 32) (v44 : IVec S8x128 1)
    (f1 : Cts F c arg1) (f2 : Cts F c arg2) (f3 : Cts F c arg3) (f4 : Cts F c arg4)
    (P : ℕ → Cts F c arg5 → Cts F c arg6 → Prop) : Prop :=
  ∀ (k : Fin k0_t1_loop.trips) (f5 : Cts F c arg5) (f6 : Cts F c arg6) (f7 : Cts F c arg7) (f8 : Cts F c arg8) (f9 : Cts F c arg9),
    P k.val f5 f6 → P (k.val + 1)
      (arg5.view.writes (Elt F) f5 (trip c i arg1 harg1 arg2 harg2 arg3 harg3 arg4 harg4 arg5 harg5 arg6 harg6 arg7 harg7 arg8 harg8 arg9 harg9 v25 v43 v44 k f1 f2 f3 f4 f7 f8 f9).1)
      (arg6.view.writes (Elt F) f6 (trip c i arg1 harg1 arg2 harg2 arg3 harg3 arg4 harg4 arg5 harg5 arg6 harg6 arg7 harg7 arg8 harg8 arg9 harg9 v25 v43 v44 k f1 f2 f3 f4 f7 f8 f9).2.1)

/-- The loop's invariant. -/
@[instance_reducible] def loopInv (E : Set ℕ) (v25 : IVec S8x128 32) (v43 : IVec S8x128 32) (v44 : IVec S8x128 1)
    (f1 : Cts F c arg1) (f2 : Cts F c arg2) (f3 : Cts F c arg3) (f4 : Cts F c arg4)
    (P : ℕ → Cts F c arg5 → Cts F c arg6 → Prop)
    (hP : Keeps c i arg1 harg1 arg2 harg2 arg3 harg3 arg4 harg4 arg5 harg5 arg6 harg6 arg7 harg7 arg8 harg8 arg9 harg9 v25 v43 v44 f1 f2 f3 f4 P) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v25 v43 v44 where
  inv k _ := Inv c arg1 arg2 arg3 arg4 arg5 arg6 arg7 arg8 arg9 f1 f2 f3 f4 P k
  step k acc := by
    iintro ⟨%f5, %f6, %f7, %f8, %f9, %hk, HW⟩
    iapply (wp_wand_r Idealize.ShloMosaic.frame (wpE (defs₀ (F := F)) Variants.none (c : Thread nD τ) none) E)
    isplitl [HW]
    · iapply ((trip c i arg1 harg1 arg2 harg2 arg3 harg3 arg4 harg4 arg5 harg5 arg6 harg6 arg7 harg7 arg8 harg8 arg9 harg9 v25 v43 v44 k f1 f2 f3 f4 f7 f8 f9).2.2.2.2.2 E f5 f6)
      iexact HW
    · iintro %_ HW
      iexists _; iexists _; iexists _; iexists _; iexists _
      isplitr [HW]
      · ipureintro; exact hP k f5 f6 f7 f8 f9 hk
      · iexact HW

/-- THE BODY: from the nine buffers held, it runs to the same buffers, the inputs unchanged and the outputs at contents
    of which `P` holds after the last trip. -/
theorem body_run (E : Set ℕ)
    (f1 : Cts F c arg1) (f2 : Cts F c arg2) (f3 : Cts F c arg3) (f4 : Cts F c arg4)
    (P : ℕ → Cts F c arg5 → Cts F c arg6 → Prop) (h0 : ∀ f5 f6, P 0 f5 f6)
    (hP : Keeps c i arg1 harg1 arg2 harg2 arg3 harg3 arg4 harg4 arg5 harg5 arg6 harg6 arg7 harg7 arg8 harg8 arg9 harg9 k0_pay153 k0_pay154 k0_pay155 f1 f2 f3 f4 P)
    (f5 : Cts F c arg5) (f6 : Cts F c arg6) (f7 : Cts F c arg7) (f8 : Cts F c arg8) (f9 : Cts F c arg9) :
    Held c arg1 arg2 arg3 arg4 arg5 arg6 arg7 arg8 arg9 f1 f2 f3 f4 f5 f6 f7 f8 f9
      ⊢ wp frame (wpE (defs₀ (F := F)) Variants.none (c : Thread nD τ) none) E
          (cc0_lora_merge_int4 (F := F) i arg1 harg1 arg2 harg2 arg3 harg3 arg4 harg4 arg5 harg5 arg6 harg6 arg7 harg7 arg8 harg8 arg9 harg9)
          (fun _ => Inv c arg1 arg2 arg3 arg4 arg5 arg6 arg7 arg8 arg9 f1 f2 f3 f4 P k0_t1_loop.trips) := by
  have hI : Held c arg1 arg2 arg3 arg4 arg5 arg6 arg7 arg8 arg9 f1 f2 f3 f4 f5 f6 f7 f8 f9 ⊢ Inv c arg1 arg2 arg3 arg4 arg5 arg6 arg7 arg8 arg9 f1 f2 f3 f4 P 0 := by
    iintro HW
    iexists f5; iexists f6; iexists f7; iexists f8; iexists f9
    isplitr [HW]
    · ipureintro; exact h0 f5 f6
    · iexact HW
  iintro HW
  ihave HI := hI $$ HW
  rw [cc0_lora_merge_int4_eq_skeleton]
  unfold cc0_lora_merge_int4_skel
  rw [k0_part37_eq_skeleton]
  unfold k0_part37_skel
  simp only [pure_bind]
  ihave Hk := exec_loop Idealize.ShloMosaic.frame (wpE (defs₀ (F := F)) Variants.none (c : Thread nD τ) none) E
    k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 k0_pay153 k0_pay154 k0_pay155)
    (loopInv (F := F) c i arg1 harg1 arg2 harg2 arg3 harg3 arg4 harg4 arg5 harg5 arg6 harg6 arg7 harg7 arg8 harg8 arg9 harg9 E k0_pay153 k0_pay154 k0_pay155 f1 f2 f3 f4 P hP)
    $$ HI
  iapply Hk
  iintro %_ HI
  sl_step
  iexact HI
end

end Cert.Proof.PI

end
-- ==== Proof.Ideal.Frame.lean ====
/-
  The idealized kernel runs and keeps its arguments (untrusted, hand-written): the pipeline's proof data with the two
  outputs left unnamed, its body obligation at every grid point, the run of @main and the frame read off it.
-/
module

public import proofs.«01_k».proof.Proof.Ideal.Kernel

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body on whole memrefs: the inputs' read contents stay, the outputs and the scratch buffers end at some contents. -/
theorem sound_kernel (c : Dev nD) (i : grid0.Coords) (E : Set ℕ)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x2x128 .bf16) (harg7 : arg7.IsWhole) (arg8 : Memref sig .tc .vmem S512x256 .f32) (harg8 : arg8.IsWhole)
    (arg9 : Memref sig .tc .vmem S2x128x128 .i16) (harg9 : arg9.IsWhole)
    (x1 : Vec F S1x128x5120 .i8) (x2 : Vec F S1x10x16x256 .bf16) (x3 : Vec F S1x8x5120 .bf16) (x4 : Vec F S1x128x256 .bf16)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E
          (cc0_lora_merge_int4 (F := F) i arg1 harg1 arg2 harg2 arg3 harg3 arg4 harg4 arg5 harg5 arg6 harg6 arg7 harg7 arg8 harg8 arg9 harg9) K := by
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  iapply (wp_wand_r Idealize.ShloMosaic.frame (wpE (defs₀ (F := F)) Variants.none (c : Thread nD τ) none) E)
  isplitr [Hk]
  · iapply (body_run (F := F) c i arg1 harg1 arg2 harg2 arg3 harg3 arg4 harg4 arg5 harg5 arg6 harg6 arg7 harg7 arg8 harg8 arg9 harg9 E
      f1 f2 f3 f4 (fun _ _ _ => True) (fun _ _ => trivial) (fun _ _ _ _ _ _ _ => trivial) f5 f6 f7 f8 f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨%g5, %g6, %g7, %g8, %g9, -, H1, H2, H3, H4, H5, H6, H7, H8, H9⟩
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists _; iexists g5; isplitr; · ipureintro; rfl
      iexact H5
    isplitl [H6]
    · iexists _; iexists g6; isplitr; · ipureintro; rfl
      iexact H6
    isplitl [H7]
    · iexists _; iexists g7; isplitr; · ipureintro; rfl
      iexact H7
    isplitl [H8]
    · iexists _; iexists g8; isplitr; · ipureintro; rfl
      iexact H8
    iexists _; iexists g9; isplitr; · ipureintro; rfl
    iexact H9

variable (m : (ℓ : Loc nD τ sig) → Buf (Elt F) ℓ) (ρ : Dev nD → PrngReg)

/-- The proof data: each input's buffer at its block, the two outputs unnamed, the scoped rest in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed 4 t
    | ⟨5, _⟩ => Dat.unnamed 5 t
  Φ _ := Pipeline.ΦA spec0 c
  q _ := fullShare
  owed _ := 0

/-- The outputs are the windows left unnamed. -/
def forgets : Fin 6 → Bool := fun w => w.val == 4 || w.val == 5

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  simp only [← owns_whole]
  iintro ⟨⟨⟨HS0, HS1, HS2⟩, HP⟩, Ho, ⟨%d0, H0⟩, ⟨%d1, H1⟩, ⟨%d2, H2⟩, ⟨%d3, H3⟩, H4, H5⟩
  iapply (sound_kernel c (grid0.coords t) Set.univ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 HP]
  · isplitl [HS0 HS1 HS2]
    · isplitl [HS0]; · iexact HS0
      isplitl [HS1]; · iexact HS1
      iexact HS2
    · iexact HP
  isplitl [Ho]; · iexact Ho
  isplitl [H0]; · iexact H0
  isplitl [H1]; · iexact H1
  isplitl [H2]; · iexact H2
  isplitl [H3]; · iexact H3
  isplitl [H4]; · iexact H4
  iexact H5

/-- The body table's row at a point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the outputs forgotten. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- The buffers the host lines after the region write. -/
def tailT : Finset (Ref sig .tc) := {main_v23, main_v24, main_v25, main_v26, main_v27}

theorem tailT_writes : ∀ ops ∈ ([hostOps1] : List (List (HloOp τ sig (Elt F)))), ∀ op ∈ ops, ∀ b : Ref sig .tc,
    Proc.devRef .tc b ∈ op.writes → b ∈ tailT := by
  intro ops hops op hop b hb
  simp only [List.mem_cons, List.mem_nil_iff, or_false] at hops
  rcases hops with rfl
  simp only [hostOps1, List.mem_cons, List.mem_nil_iff, or_false] at hop
  rcases hop with rfl | rfl | rfl | rfl | rfl <;>
    simp only [StableHlo.nullary_writes, StableHlo.unary_writes, StableHlo.binary_writes, StableHlo.reshape_writes, Finset.mem_singleton] at hb <;>
    (have hb' := Proc.devRef_injective _ hb; subst hb'; decide)

set_option backward.isDefEq.respectTransparency.types false in
/-- The run of @main: the pipeline's inputs and every buffer the tail does not write end as the region found them, and
    every semaphore counter is zero. -/
theorem run_main : θ_run defs (onTc (τ := τ) (main (F := F))) (s₀ m ρ)
    (fun r => Pipeline.RDat.FramePostR cfg0 (fun c => (dats m 0 c).toRForget forgets) tailT (fun c b => V0 m c (Proc.devRef .tc b)) r ∧ r.2.sem = fun _ => 0) :=
  Pipeline.θ_run_frame_around_T_forget (Q' := _) cfgs (dats m) (0 : Fin 1) launch0 defs₀ Variants.none forgets tailT m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tailT_writes) (hmain := hmain m Variants.none) (hA := A_eq m) (hΦ := fun _ _ => rfl)

/-- THE FRAME of the idealized kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1.arr_in c 0 rfl).trans (V_main_arg0 m c),
     ((h.1 c).2 main_arg1 (Finset.mem_sdiff.mpr ⟨Pipeline.mem_restRefs_of main_arg1 (by decide) (by decide), by decide⟩)).trans (V_main_arg1 m c),
     (h.1.arr_in c 2 rfl).trans (V_main_arg2 m c),
     ((h.1 c).2 main_arg3 (Finset.mem_sdiff.mpr ⟨Pipeline.mem_restRefs_of main_arg3 (by decide) (by decide), by decide⟩)).trans (V_main_arg3 m c)⟩, h.2⟩)
    (run_main m ρ)

end Cert.Proof.PI

end
-- ==== Proof.Ref.Read.lean ====
/-
  The reference's operations, read at an index (untrusted, hand-written).
-/
module

public import proofs.«01_k».proof.Proof.Gen.ReferenceIdeal.Read

@[expose] public section

end
-- ==== Proof.Val.Quant.lean ====
/-
  The quantiser at one element (untrusted, hand-written): the kernel's chain — the product with the reciprocal scale, a
  large even integer added, a rounding, sixteen bits read as a float and clipped — against the plain one — the quotient
  by the scale rounded and clipped.
-/
module

public import Idealize.ShloMosaic.PureOps.Ideal
public import Idealize.ShloMosaic.PureOps.Ideal.Laws

@[expose] public section

set_option maxRecDepth 16384

noncomputable section

namespace Cert.Proof.Val

open Idealize.ShloMosaic

/-- The absolute value of an extended real, as the operations spell it. -/
abbrev eabs (x : EReal) : EReal := max x (-x)

/-- The plain quantiser: round half to even, clip to [-7, 7], as a 32-bit integer. -/
def qz (x : EReal) : BitVec 32 := Ideal.fptosi 32 (min (7 : ℝ) (max ((-7 : ℝ) : EReal) (Ideal.liftRound Ideal.roundHalfEven x)))

/-- The scale of a group whose largest magnitude is `a`. -/
def scaleOf (a : EReal) : EReal := if a = 0 then 1 else Ideal.div a ((7 : ℝ) : EReal)

/-- The kernel's quantiser at one element: `x` is the product with the reciprocal scale. -/
def qk (x : EReal) : BitVec 4 :=
  ((((Ideal.fptosi 32 (min (Ideal.ofBits .f32 0x43470000#32) (max (Ideal.ofBits .f32 0x43390000#32)
    (Ideal.ofBits .bf16 ((Ideal.fptosi 32 (Ideal.liftRound Ideal.roundHalfEven (x + Ideal.ofBits .f32 0x4B404340#32))
      + 1249902592#32).setWidth 16))))) + 17024#32).setWidth 16).setWidth 8).setWidth 4

theorem magic_eq : Ideal.ofBits .f32 0x4B404340#32 = ((12600128 : ℝ) : EReal) := by
  norm_num [Ideal.ofBits, Ideal.ieee, Nat.shiftRight_eq_div_pow, show ¬ (BitVec.extractLsb' 31 1 0x4B404340#32 = 1#1) from by decide]
theorem seven_eq : Ideal.ofBits .f32 0x40E00000#32 = ((7 : ℝ) : EReal) := by
  norm_num [Ideal.ofBits, Ideal.ieee, Nat.shiftRight_eq_div_pow, show ¬ (BitVec.extractLsb' 31 1 0x40E00000#32 = 1#1) from by decide]
theorem mseven_eq : Ideal.ofBits .f32 0xC0E00000#32 = ((-7 : ℝ) : EReal) := by
  norm_num [Ideal.ofBits, Ideal.ieee, Nat.shiftRight_eq_div_pow, show (BitVec.extractLsb' 31 1 0xC0E00000#32 = 1#1) from by decide]
theorem one_eq : Ideal.ofBits .f32 0x3F800000#32 = (1 : EReal) := by
  norm_num [Ideal.ofBits, Ideal.ieee, Nat.shiftRight_eq_div_pow, show ¬ (BitVec.extractLsb' 31 1 0x3F800000#32 = 1#1) from by decide]
theorem two_eq : Ideal.ofBits .f32 0x40000000#32 = ((2 : ℝ) : EReal) := by
  norm_num [Ideal.ofBits, Ideal.ieee, Nat.shiftRight_eq_div_pow, show ¬ (BitVec.extractLsb' 31 1 0x40000000#32 = 1#1) from by decide]
theorem two_bf_eq : Ideal.ofBits .bf16 0x4000#16 = ((2 : ℝ) : EReal) := by
  norm_num [Ideal.ofBits, Ideal.ieee, Nat.shiftRight_eq_div_pow, show ¬ (BitVec.extractLsb' 15 1 0x4000#16 = 1#1) from by decide]
theorem ninf_eq : Ideal.ofBits .f32 0xFF800000#32 = (⊥ : EReal) := by
  norm_num [Ideal.ofBits, Ideal.ieee, Nat.shiftRight_eq_div_pow, show (BitVec.extractLsb' 31 1 0xFF800000#32 = 1#1) from by decide]
theorem hi_eq : Ideal.ofBits .f32 0x43470000#32 = ((199 : ℝ) : EReal) := by
  norm_num [Ideal.ofBits, Ideal.ieee, Nat.shiftRight_eq_div_pow, show ¬ (BitVec.extractLsb' 31 1 0x43470000#32 = 1#1) from by decide]
theorem lo_eq : Ideal.ofBits .f32 0x43390000#32 = ((185 : ℝ) : EReal) := by
  norm_num [Ideal.ofBits, Ideal.ieee, Nat.shiftRight_eq_div_pow, show ¬ (BitVec.extractLsb' 31 1 0x43390000#32 = 1#1) from by decide]

/-- A large even integer passes through the rounding. -/
theorem round_add_even (x : ℝ) : Ideal.roundHalfEven (x + 12600128) = Ideal.roundHalfEven x + 12600128 := by
  have h : ⌊x + 12600128⌋ = ⌊x⌋ + 12600128 := by
    have := Int.floor_add_intCast x 12600128
    push_cast at this; exact this
  have he : Even (⌊x⌋ + 12600128) ↔ Even ⌊x⌋ := by
    rw [Int.even_add]; have : Even (12600128 : ℤ) := by decide
    tauto
  unfold Ideal.roundHalfEven
  simp only [h]
  have e : x + 12600128 - ((⌊x⌋ + 12600128 : ℤ) : ℝ) = x - (⌊x⌋ : ℝ) := by push_cast; ring
  rw [e]
  split_ifs <;> first | rfl | omega | (exfalso; tauto)

/-- The rounding of a number in [-7, 7] is in [-7, 7]. -/
theorem round_bounds (x : ℝ) (h1 : -7 ≤ x) (h2 : x ≤ 7) : -7 ≤ Ideal.roundHalfEven x ∧ Ideal.roundHalfEven x ≤ 7 := by
  have f1 : -7 ≤ ⌊x⌋ := Int.le_floor.2 (by push_cast; exact h1)
  have f2 : ⌊x⌋ ≤ 7 := by
    have : (⌊x⌋ : ℝ) ≤ 7 := (Int.floor_le x).trans h2
    exact_mod_cast this
  have f3 : ⌊x⌋ = 7 → x - (⌊x⌋ : ℝ) < 1 / 2 := fun h => by rw [h]; push_cast; linarith
  unfold Ideal.roundHalfEven
  simp only
  split_ifs with a b
  · exact ⟨f1, f2⟩
  · refine ⟨by omega, ?_⟩
    rcases eq_or_lt_of_le f2 with h | h
    · exact absurd (f3 h) a
    · omega
  · exact ⟨f1, f2⟩
  · refine ⟨by omega, ?_⟩
    rcases eq_or_lt_of_le f2 with h | h
    · exact absurd (f3 h) a
    · omega

theorem coe_max' (x y : ℝ) : ((max x y : ℝ) : EReal) = max (x : EReal) (y : EReal) := EReal.coe_strictMono.monotone.map_max
theorem coe_min' (x y : ℝ) : ((min x y : ℝ) : EReal) = min (x : EReal) (y : EReal) := EReal.coe_strictMono.monotone.map_min

theorem fptosi_int (n : ℤ) (h1 : -2147483648 ≤ n) (h2 : n ≤ 2147483647) : Ideal.fptosi 32 (((n : ℝ) : EReal)) = BitVec.ofInt 32 n := by
  unfold Ideal.fptosi
  congr 1
  show max _ (min _ _) = n
  have : (if (0:ℝ) ≤ (n : ℝ) then ⌊(n : ℝ)⌋ else ⌈(n : ℝ)⌉) = n := by split_ifs <;> simp
  rw [this]
  norm_num
  omega

theorem ofBits_word (n : ℤ) (h1 : -7 ≤ n) (h2 : n ≤ 7) :
    Ideal.ofBits .bf16 ((BitVec.ofInt 32 (n + 12600128) + 1249902592#32).setWidth 16) = ((((192 + n : ℤ)) : ℝ) : EReal) := by
  interval_cases n <;> first
    | (rw [show (BitVec.ofInt 32 (-7 + 12600128) + 1249902592#32).setWidth 16 = 17209#16 from by decide]; norm_num [Ideal.ofBits, Ideal.ieee, Nat.shiftRight_eq_div_pow, show ¬ (BitVec.extractLsb' 15 1 17209#16 = 1#1) from by decide])
    | (rw [show (BitVec.ofInt 32 (-6 + 12600128) + 1249902592#32).setWidth 16 = 17210#16 from by decide]; norm_num [Ideal.ofBits, Ideal.ieee, Nat.shiftRight_eq_div_pow, show ¬ (BitVec.extractLsb' 15 1 17210#16 = 1#1) from by decide])
    | (rw [show (BitVec.ofInt 32 (-5 + 12600128) + 1249902592#32).setWidth 16 = 17211#16 from by decide]; norm_num [Ideal.ofBits, Ideal.ieee, Nat.shiftRight_eq_div_pow, show ¬ (BitVec.extractLsb' 15 1 17211#16 = 1#1) from by decide])
    | (rw [show (BitVec.ofInt 32 (-4 + 12600128) + 1249902592#32).setWidth 16 = 17212#16 from by decide]; norm_num [Ideal.ofBits, Ideal.ieee, Nat.shiftRight_eq_div_pow, show ¬ (BitVec.extractLsb' 15 1 17212#16 = 1#1) from by decide])
    | (rw [show (BitVec.ofInt 32 (-3 + 12600128) + 1249902592#32).setWidth 16 = 17213#16 from by decide]; norm_num [Ideal.ofBits, Ideal.ieee, Nat.shiftRight_eq_div_pow, show ¬ (BitVec.extractLsb' 15 1 17213#16 = 1#1) from by decide])
    | (rw [show (BitVec.ofInt 32 (-2 + 12600128) + 1249902592#32).setWidth 16 = 17214#16 from by decide]; norm_num [Ideal.ofBits, Ideal.ieee, Nat.shiftRight_eq_div_pow, show ¬ (BitVec.extractLsb' 15 1 17214#16 = 1#1) from by decide])
    | (rw [show (BitVec.ofInt 32 (-1 + 12600128) + 1249902592#32).setWidth 16 = 17215#16 from by decide]; norm_num [Ideal.ofBits, Ideal.ieee, Nat.shiftRight_eq_div_pow, show ¬ (BitVec.extractLsb' 15 1 17215#16 = 1#1) from by decide])
    | (rw [show (BitVec.ofInt 32 (0 + 12600128) + 1249902592#32).setWidth 16 = 17216#16 from by decide]; norm_num [Ideal.ofBits, Ideal.ieee, Nat.shiftRight_eq_div_pow, show ¬ (BitVec.extractLsb' 15 1 17216#16 = 1#1) from by decide])
    | (rw [show (BitVec.ofInt 32 (1 + 12600128) + 1249902592#32).setWidth 16 = 17217#16 from by decide]; norm_num [Ideal.ofBits, Ideal.ieee, Nat.shiftRight_eq_div_pow, show ¬ (BitVec.extractLsb' 15 1 17217#16 = 1#1) from by decide])
    | (rw [show (BitVec.ofInt 32 (2 + 12600128) + 1249902592#32).setWidth 16 = 17218#16 from by decide]; norm_num [Ideal.ofBits, Ideal.ieee, Nat.shiftRight_eq_div_pow, show ¬ (BitVec.extractLsb' 15 1 17218#16 = 1#1) from by decide])
    | (rw [show (BitVec.ofInt 32 (3 + 12600128) + 1249902592#32).setWidth 16 = 17219#16 from by decide]; norm_num [Ideal.ofBits, Ideal.ieee, Nat.shiftRight_eq_div_pow, show ¬ (BitVec.extractLsb' 15 1 17219#16 = 1#1) from by decide])
    | (rw [show (BitVec.ofInt 32 (4 + 12600128) + 1249902592#32).setWidth 16 = 17220#16 from by decide]; norm_num [Ideal.ofBits, Ideal.ieee, Nat.shiftRight_eq_div_pow, show ¬ (BitVec.extractLsb' 15 1 17220#16 = 1#1) from by decide])
    | (rw [show (BitVec.ofInt 32 (5 + 12600128) + 1249902592#32).setWidth 16 = 17221#16 from by decide]; norm_num [Ideal.ofBits, Ideal.ieee, Nat.shiftRight_eq_div_pow, show ¬ (BitVec.extractLsb' 15 1 17221#16 = 1#1) from by decide])
    | (rw [show (BitVec.ofInt 32 (6 + 12600128) + 1249902592#32).setWidth 16 = 17222#16 from by decide]; norm_num [Ideal.ofBits, Ideal.ieee, Nat.shiftRight_eq_div_pow, show ¬ (BitVec.extractLsb' 15 1 17222#16 = 1#1) from by decide])
    | (rw [show (BitVec.ofInt 32 (7 + 12600128) + 1249902592#32).setWidth 16 = 17223#16 from by decide]; norm_num [Ideal.ofBits, Ideal.ieee, Nat.shiftRight_eq_div_pow, show ¬ (BitVec.extractLsb' 15 1 17223#16 = 1#1) from by decide])

/-- The kernel's chain on a number in [-7, 7] is the plain quantiser's low four bits. -/
theorem qk_eq (x : ℝ) (h1 : -7 ≤ x) (h2 : x ≤ 7) : qk (x : EReal) = (qz (x : EReal)).setWidth 4 := by
  obtain ⟨b1, b2⟩ := round_bounds x h1 h2
  have hq : qz (x : EReal) = BitVec.ofInt 32 (Ideal.roundHalfEven x) := by
    unfold qz
    rw [Ideal.liftRound_coe, ← coe_max', ← coe_min']
    have e1 : max (-7 : ℝ) ((Ideal.roundHalfEven x : ℤ) : ℝ) = ((Ideal.roundHalfEven x : ℤ) : ℝ) := max_eq_right (by exact_mod_cast b1)
    have e2 : min (7 : ℝ) ((Ideal.roundHalfEven x : ℤ) : ℝ) = ((Ideal.roundHalfEven x : ℤ) : ℝ) := min_eq_right (by exact_mod_cast b2)
    rw [e1, e2, fptosi_int _ (by omega) (by omega)]
  rw [hq]
  unfold qk
  rw [magic_eq, ← EReal.coe_add, Ideal.liftRound_coe, round_add_even, hi_eq, lo_eq, fptosi_int _ (by omega) (by omega), ofBits_word _ b1 b2,
    ← coe_max', ← coe_min']
  generalize Ideal.roundHalfEven x = n at b1 b2
  have e1 : max (185 : ℝ) (((192 + n : ℤ)) : ℝ) = (((192 + n : ℤ)) : ℝ) := max_eq_right (by
    have : (185 : ℤ) ≤ 192 + n := by omega
    exact_mod_cast this)
  have e2 : min (199 : ℝ) (((192 + n : ℤ)) : ℝ) = (((192 + n : ℤ)) : ℝ) := min_eq_right (by
    have : 192 + n ≤ (199 : ℤ) := by omega
    exact_mod_cast this)
  rw [e1, e2, fptosi_int _ (by omega) (by omega)]
  interval_cases n <;> decide

/-- The product with the reciprocal scale and the quotient by the scale agree, and are a number in [-7, 7]. -/
theorem scaled (m a : EReal) (h : eabs m ≤ a) :
    ∃ x : ℝ, -7 ≤ x ∧ x ≤ 7 ∧ m * Ideal.div 1 (scaleOf a) = (x : EReal) ∧ Ideal.div m (scaleOf a) = (x : EReal) := by
  have hm : m ≤ a := (le_max_left _ _).trans h
  have hn : -m ≤ a := (le_max_right _ _).trans h
  have h0 : 0 ≤ a := by
    rcases le_total 0 m with h | h
    · exact h.trans hm
    · have : -0 ≤ -m := EReal.neg_le_neg_iff.2 h
      rw [neg_zero] at this
      exact this.trans hn
  unfold scaleOf
  by_cases ha : a = 0
  · subst ha
    have m0 : m = 0 := by
      refine le_antisymm hm ?_
      have : -0 ≤ - -m := EReal.neg_le_neg_iff.2 hn
      rwa [neg_zero, neg_neg] at this
    subst m0
    refine ⟨0, by norm_num, by norm_num, by simp, ?_⟩
    rw [if_pos rfl]
    rw [show (1 : EReal) = ((1 : ℝ) : EReal) from rfl, Ideal.div_coe one_ne_zero]; simp
  · rw [if_neg ha]
    have e7 : Ideal.div a ((7 : ℝ) : EReal) = a * ((1 / 7 : ℝ) : EReal) := Ideal.div_coe (by norm_num) a
    rw [e7]
    induction a using EReal.rec with
    | bot => exact absurd h0 (by simp)
    | top =>
      have et : (⊤ : EReal) * ((1 / 7 : ℝ) : EReal) = ⊤ := EReal.top_mul_coe_of_pos (by norm_num)
      rw [et]
      refine ⟨0, by norm_num, by norm_num, ?_, ?_⟩ <;> simp [Ideal.div]
    | coe a =>
      have a0 : 0 < a := lt_of_le_of_ne (by exact_mod_cast h0) (fun h => ha (by rw [← h]; rfl))
      have hs : a * (1 / 7) ≠ 0 := by positivity
      have : ∃ y : ℝ, m = (y : EReal) := by
        induction m using EReal.rec with
        | bot => exact absurd hn (by simp)
        | top => exact absurd hm (by simp)
        | coe y => exact ⟨y, rfl⟩
      obtain ⟨y, rfl⟩ := this
      have hy1 : y ≤ a := by exact_mod_cast hm
      have hy2 : -y ≤ a := by exact_mod_cast hn
      rw [← EReal.coe_mul, Ideal.div_coe hs, Ideal.div_coe hs, one_mul, ← EReal.coe_mul]
      refine ⟨y * (1 / (a * (1 / 7))), ?_, ?_, rfl, rfl⟩
      · rw [mul_one_div, le_div_iff₀ (by positivity)]; linarith
      · rw [mul_one_div, div_le_iff₀ (by positivity)]; linarith

/-- The kernel's element, quantised, is the plain one's low four bits. -/
theorem quant_eq (m a : EReal) (h : eabs m ≤ a) :
    qk (m * Ideal.div 1 (scaleOf a)) = (qz (Ideal.div m (scaleOf a))).setWidth 4 := by
  obtain ⟨x, h1, h2, e1, e2⟩ := scaled m a h
  rw [e1, e2, qk_eq x h1 h2]

end Cert.Proof.Val

end
-- ==== Proof.Val.Spec.lean ====
/-
  What one batch of the problem computes, over its operands read at natural numbers (untrusted, hand-written): the packed
  codes `W`, their scales `S`, the two low-rank factors `A` and `B`.
-/
module

public import proofs.«01_k».proof.Proof.Val.Quant

@[expose] public section

noncomputable section

namespace Cert.Proof.Val

open Idealize.ShloMosaic

variable (W : ℕ → ℕ → BitVec 8) (S A B : ℕ → ℕ → EReal)

/-- The low (`h = 0`) or high (`h = 1`) four-bit code of a byte. -/
def nib (w : BitVec 8) (h : ℕ) : BitVec 4 := w.extractLsb' (4 * h) 4

/-- The effective weight at row `n`, column `d`. -/
def mg (n d : ℕ) : EReal := (((nib (W (n / 2) d) (n % 2)).toInt : ℝ) : EReal) * S n (d / 128) + 2 * ∑ ρ : Fin 8, B n ρ.val * A ρ.val d

/-- The largest absolute value in row `n`, group `g`. -/
def am (n g : ℕ) : EReal := ⨆ k : Fin 128, eabs (mg W S A B n (128 * g + k.val))

/-- The scale of row `n`, group `g`. -/
def sc (n g : ℕ) : EReal := scaleOf (am W S A B n g)

/-- The four-bit code at row `n`, column `d`. -/
def q4 (n d : ℕ) : BitVec 4 := (qz (Ideal.div (mg W S A B n d) (sc W S A B n (d / 128)))).setWidth 4

/-- The packed byte at `y`, column `d`: row `2 y` in the low half. -/
def out (y d : ℕ) : BitVec 8 := q4 W S A B (2 * y + 1) d ++ q4 W S A B (2 * y) d

/-- The quantised code is what the kernel's chain makes of the product with the reciprocal scale. -/
theorem qk_eq_q4 (n d g k : ℕ) (hk : k < 128) (hd : d = 128 * g + k) :
    qk (mg W S A B n d * Ideal.div 1 (sc W S A B n g)) = q4 W S A B n d := by
  have hg : d / 128 = g := by omega
  unfold q4 sc
  rw [hg]
  refine quant_eq _ _ ?_
  unfold am
  rw [hd]
  exact le_iSup (fun k : Fin 128 => eabs (mg W S A B n (128 * g + k.val))) ⟨k, hk⟩

theorem eabs_nonneg (x : EReal) : 0 ≤ eabs x := by
  unfold eabs
  rcases le_total 0 x with h | h
  · exact le_max_of_le_left h
  · exact le_max_of_le_right (by simpa using h)

theorem am_nonneg (n g : ℕ) : 0 ≤ am W S A B n g :=
  (eabs_nonneg _).trans (le_iSup (fun k : Fin 128 => eabs (mg W S A B n (128 * g + k.val))) 0)

theorem nib_getLsbD (w : BitVec 8) (h q : ℕ) (hq : q < 4) : (nib w h).getLsbD q = w.getLsbD (4 * h + q) := by
  unfold nib
  simp [BitVec.getLsbD_extractLsb', hq]

/-- Four codes in one word, the first lowest. -/
def word (f : ℕ → BitVec 4) : BitVec 16 := f 3 ++ f 2 ++ f 1 ++ f 0

theorem word_getLsbD (f : ℕ → BitVec 4) (c q : ℕ) (hc : c < 4) (hq : q < 4) : (word f).getLsbD (4 * c + q) = (f c).getLsbD q := by
  change BitVec.getLsbD (w := 4 + 4 + 4 + 4) (f 3 ++ f 2 ++ f 1 ++ f 0) (4 * c + q) = _
  simp only [BitVec.getLsbD_append]
  interval_cases c <;> split_ifs <;> first | omega | (congr 1; omega)

theorem out_getLsbD (y d c q : ℕ) (hc : c < 2) (hq : q < 4) : (out W S A B y d).getLsbD (4 * c + q) = (q4 W S A B (2 * y + c) d).getLsbD q := by
  change BitVec.getLsbD (w := 4 + 4) (q4 W S A B (2 * y + 1) d ++ q4 W S A B (2 * y) d) (4 * c + q) = _
  simp only [BitVec.getLsbD_append]
  interval_cases c <;> split_ifs <;> first | omega | (congr 1; omega)

end Cert.Proof.Val

end
-- ==== Proof.Val.Host.lean ====
/-
  The host lines before the region (untrusted, hand-written): the two operands they lay out, read at an index.
-/
module

public import proofs.«01_k».proof.Proof.Val.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Val

open Cert.KernelIdeal Cert.KernelIdeal.Gen
open Idealize.ShloMosaic Idealize.ShloMosaic.TcCoe

/-- The scales as the host lays them out. -/
def hostS (x1 : FVec Ideal S36x256x40 .bf16) : FVec Ideal S36x10x16x256 .bf16 :=
  shapeCast S36x10x16x256 (broadcastInDim S1x36x1x10x4x4x1x256 ![0, 1, 2, 3, 4, 5, 6, 7] bcast_S1x36x1x10x1x4x1x256_S1x36x1x10x4x4x1x256_0_1_2_3_4_5_6_7
    (shapeCast S1x36x1x10x1x4x1x256 (shapeCast S36x10x4x256 (transpose S36x10x4x4x64 [0, 3, 2, 4, 1]
      (shapeCast S36x64x4x10x4 x1 shapeCasts_S36x256x40_S36x64x4x10x4) transposes_S36x64x4x10x4_S36x10x4x4x64_0_3_2_4_1)
      shapeCasts_S36x10x4x4x64_S36x10x4x256) shapeCasts_S36x10x4x256_S1x36x1x10x1x4x1x256)) shapeCasts_S1x36x1x10x4x4x1x256_S36x10x16x256

/-- The doubled second factor, tiled over the four quarters, as the host lays it out. -/
def hostB (x3 : FVec Ideal S36x256x8 .bf16) : FVec Ideal S36x128x256 .bf16 :=
  shapeCast S36x128x256 (mulf
    (broadcastInDim S36x4x4x8x4x64 ![0, 1, 2, 3, 4, 5] bcast_S36x4x1x8x1x64_S36x4x4x8x4x64_0_1_2_3_4_5
      (broadcastInDim S36x4x1x8x1x64 ![0, 1, 3, 5] bcast_S36x4x8x64_S36x4x1x8x1x64_0_1_3_5
        (transpose S36x4x8x64 [0, 2, 3, 1] (shapeCast S36x64x4x8 (mulf x3 (broadcastInDim S36x256x8 ![] bcast_S_S36x256x8 (constant (F := Ideal) S_ .bf16 0x4000#16)))
          shapeCasts_S36x256x8_S36x64x4x8) transposes_S36x64x4x8_S36x4x8x64_0_2_3_1)))
    (broadcastInDim S36x4x4x8x4x64 ![0, 1, 2, 3, 4, 5] bcast_S1x1x4x1x4x1_S36x4x4x8x4x64_0_1_2_3_4_5
      (broadcastInDim S1x1x4x1x4x1 ![2, 4] bcast_S4x4_S1x1x4x1x4x1_2_4
        (uitofp (F := Ideal) .bf16 (cmpi .eq (addi (iotaInDim S4x4 32 0) (broadcastInDim S4x4 ![] bcast_S_S4x4 (constantI S_ 32 0#32))) (iotaInDim S4x4 32 1))))))
    shapeCasts_S36x4x4x8x4x64_S36x128x256

variable (m : (ℓ : Loc nD τ sig) → Buf (Elt Ideal) ℓ)

theorem V_main_v5 (c : Dev nD) : V m c main_v5 = hostS (m ((c : Thread nD τ).loc main_arg1)) := by
  entry_read
  rfl

theorem V_main_v21 (c : Dev nD) : V m c main_v21 = hostB (m ((c : Thread nD τ).loc main_arg3)) := by
  entry_read
  rfl

theorem hostS_apply (x1 : FVec Ideal S36x256x40 .bf16) (b : Fin 36) (u : Fin 10) (r : Fin 16) (L : Fin 256) :
    hostS x1 (ix4 b u r L) = x1 (ix3 b ⟨4 * (L.val % 64) + r.val % 4, by omega⟩ ⟨4 * u.val + L.val / 64, by omega⟩) := by
  pointwise [hostS]
  congr 2 <;> exact Fin.ext (by simp only []; omega)

theorem hostB_apply (x3 : FVec Ideal S36x256x8 .bf16) (b : Fin 36) (j : Fin 128) (L : Fin 256) :
    (hostB x3 (ix3 b j L) : EReal) = (x3 (ix3 b ⟨4 * (L.val % 64) + j.val / 32, by omega⟩ ⟨j.val % 8, by omega⟩) * 2)
      * (if j.val % 32 / 8 = L.val / 64 then (1 : EReal) else 0) := by
  pointwise [hostB]
  have hj := j.isLt
  have e1 : (⟨L.val % 64 * 4 + j.val / 32, by omega⟩ : Fin 256) = ⟨4 * (L.val % 64) + j.val / 32, by omega⟩ := Fin.ext (by show L.val % 64 * 4 + j.val / 32 = 4 * (L.val % 64) + j.val / 32; omega)
  rw [e1, two_bf_eq]
  congr 1
  have key : ∀ (p : Fin 4) (q : Fin 4), (FloatOps.uitofp (F := Ideal) FTy.bf16 (IntOp.cmpi CmpIPredicate.eq (IntOp.addi (BitVec.ofNat 32 p.val) 0#32) (BitVec.ofNat 32 q.val)) : EReal)
      = if p = q then 1 else 0 := by
    intro p q
    have : IntOp.cmpi CmpIPredicate.eq (IntOp.addi (BitVec.ofNat 32 p.val) 0#32) (BitVec.ofNat 32 q.val) = if p = q then 1#1 else 0#1 := by
      revert p q; decide
    rw [this]
    split_ifs <;> simp [FloatOps.uitofp]
  have hL := L.isLt
  refine (key ⟨j.val / 8 % 4, by omega⟩ ⟨L.val / 64, by omega⟩).trans (if_congr ?_ rfl rfl)
  rw [Fin.ext_iff]
  show j.val / 8 % 4 = L.val / 64 ↔ _
  omega

/-- The batch of a grid point. -/
def bt (t : Fin cfg0.N) : Fin 36 := ⟨t.val, lt_of_lt_of_eq t.isLt (by decide)⟩
theorem bt_val (t : Fin cfg0.N) : (bt t).val = t.val := rfl

/-- The codes of batch `b`, at any two numbers. -/
def wOf (x0 : IVec S36x128x5120 8) (b : Fin 36) (y d : ℕ) : BitVec 8 := x0 (ix3 b (Fin.ofNat 128 y) (Fin.ofNat 5120 d))
/-- The scales of batch `b`. -/
def sOf (x1 : FVec Ideal S36x256x40 .bf16) (b : Fin 36) (n g : ℕ) : EReal := x1 (ix3 b (Fin.ofNat 256 n) (Fin.ofNat 40 g))
/-- The first low-rank factor of batch `b`. -/
def aOf (x2 : FVec Ideal S36x8x5120 .bf16) (b : Fin 36) (r d : ℕ) : EReal := x2 (ix3 b (Fin.ofNat 8 r) (Fin.ofNat 5120 d))
/-- The second low-rank factor of batch `b`. -/
def bOf (x3 : FVec Ideal S36x256x8 .bf16) (b : Fin 36) (n r : ℕ) : EReal := x3 (ix3 b (Fin.ofNat 256 n) (Fin.ofNat 8 r))

/-- Every window's block at a grid point is the point's own batch. -/
theorem idx0 : ∀ t : Fin cfg0.N, win0_0.index t = ![t.val, 0, 0] ∧ win0_1.index t = ![t.val, 0, 0, 0] ∧ win0_2.index t = ![t.val, 0, 0]
    ∧ win0_3.index t = ![t.val, 0, 0] ∧ win0_4.index t = ![t.val, 0, 0] ∧ win0_5.index t = ![t.val, 0, 0, 0] := by decide +kernel

theorem iblk0 (c : Dev nD) (t : Fin cfg0.N) (y : Fin 128) (d : Fin 5120) :
    iblk m c 0 t (ix3 0 y d) = wOf (m ((c : Thread nD τ).loc main_arg0)) (bt t) y.val d.val := by
  have e : ((win0_0.blk t).view.emb (ix3 0 y d)) = ix3 (bt t) y d := by blk_ext [idx0 t, bt_val t]
  refine (congrArg (V m c main_arg0) e).trans ?_
  rw [V_main_arg0]
  unfold wOf
  rw [Fin.ofNat_val_eq_self, Fin.ofNat_val_eq_self]

theorem iblk1 (c : Dev nD) (t : Fin cfg0.N) (u : Fin 10) (r : Fin 16) (L : Fin 256) :
    iblk m c 1 t (ix4 0 u r L) = sOf (m ((c : Thread nD τ).loc main_arg1)) (bt t) (4 * (L.val % 64) + r.val % 4) (4 * u.val + L.val / 64) := by
  have e : ((win0_1.blk t).view.emb (ix4 0 u r L)) = ix4 (bt t) u r L := by blk_ext [idx0 t, bt_val t]
  refine (congrArg (V m c main_v5) e).trans ?_
  rw [V_main_v5, hostS_apply]
  unfold sOf
  congr 2 <;> exact Fin.ext (Nat.mod_eq_of_lt (by omega)).symm

theorem iblk2 (c : Dev nD) (t : Fin cfg0.N) (j : Fin 8) (d : Fin 5120) :
    iblk m c 2 t (ix3 0 j d) = aOf (m ((c : Thread nD τ).loc main_arg2)) (bt t) j.val d.val := by
  have e : ((win0_2.blk t).view.emb (ix3 0 j d)) = ix3 (bt t) j d := by blk_ext [idx0 t, bt_val t]
  refine (congrArg (V m c main_arg2) e).trans ?_
  rw [V_main_arg2]
  unfold aOf
  rw [Fin.ofNat_val_eq_self, Fin.ofNat_val_eq_self]

theorem iblk3 (c : Dev nD) (t : Fin cfg0.N) (j : Fin 128) (L : Fin 256) :
    (iblk m c 3 t (ix3 0 j L) : EReal) = (bOf (m ((c : Thread nD τ).loc main_arg3)) (bt t) (4 * (L.val % 64) + j.val / 32) (j.val % 8) * 2)
      * (if j.val % 32 / 8 = L.val / 64 then (1 : EReal) else 0) := by
  have e : ((win0_3.blk t).view.emb (ix3 0 j L)) = ix3 (bt t) j L := by blk_ext [idx0 t, bt_val t]
  refine (congrArg (V m c main_v21) e).trans ?_
  rw [V_main_v21, hostB_apply]
  have hj := j.isLt
  have e1 : (⟨4 * (L.val % 64) + j.val / 32, by omega⟩ : Fin 256) = Fin.ofNat 256 (4 * (L.val % 64) + j.val / 32) := Fin.ext (Nat.mod_eq_of_lt (by omega)).symm
  have e2 : (⟨j.val % 8, by omega⟩ : Fin 8) = Fin.ofNat 8 (j.val % 8) := Fin.ext (Nat.mod_eq_of_lt (by omega)).symm
  rw [e1, e2]
  rfl

end Cert.Proof.Val

end
-- ==== Proof.Val.RefM.lean ====
/-
  The reference's effective weights (untrusted, hand-written), read at an index.
-/
module

public import proofs.«01_k».proof.Proof.Val.Host
public import proofs.«01_k».proof.Proof.Ref.Read
public import Idealize.ShloMosaic.Lib.Pointwise

@[expose] public section

set_option maxRecDepth 16384

noncomputable section

namespace Cert.Proof.Val

open Cert.ReferenceIdeal Cert.ReferenceIdeal.Gen Cert.ReferenceIdeal.Read
open Idealize.ShloMosaic Idealize.ShloMosaic.TcCoe

variable (x0 : IVec S36x128x5120 8) (x1 : FVec Ideal S36x256x40 .bf16) (x2 : FVec Ideal S36x8x5120 .bf16) (x3 : FVec Ideal S36x256x8 .bf16)

/-- Shifting a packed byte left until half h stands on top and then right by 28 sign-extends that half. -/
theorem ref_word : ∀ (w : BitVec 8) (h : Fin 2),
    (IntOp.shrsi ArithUnit.host (IntOp.shli ArithUnit.host (BitVec.setWidth 32 w)
      (IntOp.subi (28#32) (IntOp.muli (4#32) (BitVec.ofNat 32 h.val)))) 28#32).toInt = (nib w h.val).toInt := by
  decide +kernel

/-- The dequantised weight: the signed 4-bit code times its group's scale. -/
theorem ref_v18 (b : Fin 36) (y : Fin 128) (h : Fin 2) (g : Fin 40) (k : Fin 128) :
    (val_main_v18 (F := Ideal) x0 x1 (ix5 b y h g k) : EReal)
      = (((nib (wOf x0 b y.val (128 * g.val + k.val)) h.val).toInt : ℝ) : EReal) * sOf x1 b (2 * y.val + h.val) g.val := by
  pointwise [val_main_v18, val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_c, val_main_c_0, val_main_c_1]
  have hw : x0 (ix3 b y ⟨g.val * 128 + k.val, by omega⟩) = wOf x0 b y.val (128 * g.val + k.val) := by
    unfold wOf
    congr 2 <;> exact Fin.ext (by simp only [Fin.ofNat]; omega)
  have hs : x1 (ix3 b ⟨y.val * 2 + h.val, by omega⟩ g) = sOf x1 b (2 * y.val + h.val) g.val := by
    unfold sOf
    congr 2 <;> exact Fin.ext (by simp only [Fin.ofNat]; omega)
  refine congrArg₂ (fun p q : EReal => p * q) ?_ hs
  rw [← hw]
  exact congrArg (fun z : ℤ => ((z : ℝ) : EReal)) (ref_word _ h)

/-- The low-rank product, one entry. -/
theorem ref_v21 (b : Fin 36) (y : Fin 128) (h : Fin 2) (g : Fin 40) (k : Fin 128) :
    (val_main_v21 (F := Ideal) x2 x3 (ix5 b y h g k) : EReal)
      = ∑ ρ : Fin 8, bOf x3 b (2 * y.val + h.val) ρ.val * aOf x2 b ρ.val (128 * g.val + k.val) := by
  rw [val_main_v21_apply]
  refine Finset.sum_congr rfl fun ρ _ => ?_
  pointwise [val_main_v19, val_main_v20]
  refine congrArg₂ (fun p q : EReal => p * q) ?_ ?_
  · unfold bOf
    congr 2 <;> exact Fin.ext (by simp only [Fin.ofNat]; first | rfl | (show _ = _ % _; omega))
  · unfold aOf
    congr 2 <;> exact Fin.ext (by simp only [Fin.ofNat]; first | rfl | (show _ = _ % _; omega))

/-- The effective weight: dequantised weight plus twice the low-rank product. -/
theorem ref_v25 (b : Fin 36) (y : Fin 128) (h : Fin 2) (g : Fin 40) (k : Fin 128) :
    (val_main_v25 (F := Ideal) x0 x1 x2 x3 (ix5 b y h g k) : EReal)
      = mg (wOf x0 b) (sOf x1 b) (aOf x2 b) (bOf x3 b) (2 * y.val + h.val) (128 * g.val + k.val) := by
  have e1 : (2 * y.val + h.val) / 2 = y.val := by omega
  have e2 : (2 * y.val + h.val) % 2 = h.val := by omega
  have e3 : (128 * g.val + k.val) / 128 = g.val := by omega
  have e4 : Ideal.ofBits .f32 0x40000000#32 = (2 : EReal) := two_eq.trans (by norm_cast)
  unfold mg
  rw [e1, e2, e3, ← ref_v18 x0 x1 b y h g k, ← ref_v21 x2 x3 b y h g k, ← e4]
  rfl

end Cert.Proof.Val

end
-- ==== Proof.Val.RefQ.lean ====
/-
  The reference's scales and codes (untrusted, hand-written), read at an index: the same closed forms as the kernel's.
-/
module

public import proofs.«01_k».proof.Proof.Val.RefM

@[expose] public section

set_option maxRecDepth 16384

noncomputable section

namespace Cert.Proof.Val

open Cert.ReferenceIdeal Cert.ReferenceIdeal.Gen Cert.ReferenceIdeal.Read
open Idealize.ShloMosaic Idealize.ShloMosaic.TcCoe

variable (x0 : IVec S36x128x5120 8) (x1 : FVec Ideal S36x256x40 .bf16) (x2 : FVec Ideal S36x8x5120 .bf16) (x3 : FVec Ideal S36x256x8 .bf16)

/-- A fold of maxima from minus infinity is the supremum. -/
theorem fold_max_bot (f : Fin 128 → EReal) : Finset.fold max (⊥ : EReal) f Finset.univ = ⨆ k, f k := by
  rw [← Finset.sup_univ_eq_iSup]
  rfl

/-- The largest absolute value of a group. -/
theorem ref_v27 (b : Fin 36) (y : Fin 128) (h : Fin 2) (g : Fin 40) :
    (val_main_v27 (F := Ideal) x0 x1 x2 x3 (ix4 b y h g) : EReal)
      = am (wOf x0 b) (sOf x1 b) (aOf x2 b) (bOf x3 b) (2 * y.val + h.val) g.val := by
  pointwise [val_main_v27, val_main_v26, val_main_cst_2]
  rw [ninf_eq, fold_max_bot]
  unfold am
  refine iSup_congr fun k => ?_
  rw [← ref_v25]
  rfl

/-- The guarded division by seven, from its scalar operations. -/
theorem sel_scale (a z o s : EReal) (hz : z = 0) (ho : o = 1) (hs : s = ((7 : ℝ) : EReal)) :
    (Scalar.select (Ideal.cmp .oeq a z) o (Ideal.div a s) : EReal) = scaleOf a := by
  subst hz ho hs
  unfold scaleOf Scalar.select Ideal.cmp
  by_cases h : a = 0 <;> simp [h]

/-- The reference's scales. -/
theorem ref_v33 (b : Fin 36) (y : Fin 128) (h : Fin 2) (g : Fin 40) :
    (val_main_v33 (F := Ideal) x0 x1 x2 x3 (ix4 b y h g) : EReal)
      = sc (wOf x0 b) (sOf x1 b) (aOf x2 b) (bOf x3 b) (2 * y.val + h.val) g.val := by
  unfold sc
  rw [← ref_v27, val_main_v33_apply, val_main_v32_apply, val_main_v29_apply, val_main_v31_apply, val_main_call0_v1_apply,
    val_main_call0_v0_apply, val_main_cst_5_apply, val_main_v28_apply, val_main_cst_3_apply, val_main_v30_apply, val_main_cst_4_apply]
  generalize val_main_v27 (F := Ideal) x0 x1 x2 x3 (ix4 b y h g) = a
  exact sel_scale a _ _ _ (by norm_num [FloatOps.ofBits, Ideal.ofBits, Ideal.ieee]) one_eq seven_eq

/-- The clamped rounding, from its scalar operations. -/
theorem clamp_qz (x u v : EReal) (hu : u = ((7 : ℝ) : EReal)) (hv : v = ((-7 : ℝ) : EReal)) :
    Ideal.fptosi 32 (min u (max v (Ideal.liftRound Ideal.roundHalfEven x))) = qz x := by
  subst hu hv
  rfl

/-- The reference's code, as a 32-bit word. -/
theorem ref_v40 (b : Fin 36) (y : Fin 128) (h : Fin 2) (g : Fin 40) (k : Fin 128) :
    (val_main_v40 (F := Ideal) x0 x1 x2 x3 (ix5 b y h g k) : BitVec 32)
      = qz (Ideal.div (mg (wOf x0 b) (sOf x1 b) (aOf x2 b) (bOf x3 b) (2 * y.val + h.val) (128 * g.val + k.val))
        (sc (wOf x0 b) (sOf x1 b) (aOf x2 b) (bOf x3 b) (2 * y.val + h.val) g.val)) := by
  have e : (val_main_v36 (F := Ideal) x0 x1 x2 x3 (ix5 b y h g k) : EReal) = val_main_v33 (F := Ideal) x0 x1 x2 x3 (ix4 b y h g) := by
    pointwise [val_main_v36, val_main_v35, val_main_v34]
  rw [← ref_v25, ← ref_v33, ← e, val_main_v40_apply, val_main_v39_apply, val_main_call2_v4_apply, val_main_call2_v3_apply, val_main_cst_7_apply,
    val_main_call2_v2_apply, val_main_call2_v1_apply, val_main_call2_v0_apply, val_main_cst_6_apply, val_main_v38_apply, val_main_v37_apply]
  generalize val_main_v25 (F := Ideal) x0 x1 x2 x3 (ix5 b y h g k) = p
  generalize val_main_v36 (F := Ideal) x0 x1 x2 x3 (ix5 b y h g k) = q
  exact clamp_qz (Ideal.div p q) _ _ seven_eq mseven_eq

/-- Two codes packed into a byte, from the word operations: the low four bits of each, one above the other. -/
theorem pack_byte (p q : BitVec 32) :
    BitVec.setWidth 8 (IntOp.ori (IntOp.shli ArithUnit.host (IntOp.andi p 15#32) 4#32) (IntOp.andi q 15#32)) = p.setWidth 4 ++ q.setWidth 4 := by
  have e : IntOp.shli ArithUnit.host (IntOp.andi p 15#32) 4#32 = (p &&& 15#32) <<< 4 := by
    show IntOp.shli ArithUnit.host (p &&& 15#32) 4#32 = (p &&& 15#32) <<< 4
    generalize p &&& 15#32 = x
    simp [IntOp.shli]
  rw [e]
  refine BitVec.eq_of_getLsbD_eq fun i hi => ?_
  change BitVec.getLsbD (BitVec.setWidth 8 ((p &&& 15#32) <<< 4 ||| (q &&& 15#32))) i = BitVec.getLsbD (w := 4 + 4) (p.setWidth 4 ++ q.setWidth 4) i
  simp only [BitVec.getLsbD_append, BitVec.getLsbD_setWidth, BitVec.getLsbD_or, BitVec.getLsbD_and, BitVec.getLsbD_shiftLeft]
  interval_cases i <;> simp [BitVec.getLsbD_ofNat]

/-- The reference's packed codes. -/
theorem ref_v53 (b : Fin 36) (y : Fin 128) (d : Fin 5120) :
    (val_main_v53 (F := Ideal) x0 x1 x2 x3 (ix3 b y d) : BitVec 8) = out (wOf x0 b) (sOf x1 b) (aOf x2 b) (bOf x3 b) y.val d.val := by
  pointwise [val_main_v53, val_main_v52, val_main_v51, val_main_v50, val_main_v49, val_main_v48, val_main_v47, val_main_v46, val_main_v45, val_main_v44,
    val_main_v43, val_main_v42, val_main_v41, val_main_c_8, val_main_c_9, val_main_c_10]
  refine (pack_byte _ _).trans ?_
  have ed : 128 * (d.val / 128) + d.val % 128 = d.val := by omega
  have e (h : Fin 2) : (val_main_v40 (F := Ideal) x0 x1 x2 x3 (ix5 b y h ⟨d.val / 128, by omega⟩ ⟨d.val % 128, by omega⟩) : BitVec 32).setWidth 4
      = q4 (wOf x0 b) (sOf x1 b) (aOf x2 b) (bOf x3 b) (2 * y.val + h.val) d.val := by
    rw [ref_v40]
    dsimp only
    rw [ed]
    rfl
  exact congrArg₂ (fun u v : BitVec 4 => (u ++ v : BitVec 8)) (e 1) (e 0)

/-- The reference's scales in the caller's layout. -/
theorem ref_v54 (b : Fin 36) (n : Fin 256) (g : Fin 40) :
    (val_main_v54 (F := Ideal) x0 x1 x2 x3 (ix3 b n g) : EReal) = sc (wOf x0 b) (sOf x1 b) (aOf x2 b) (bOf x3 b) n.val g.val := by
  pointwise [val_main_v54]
  rw [ref_v33]
  exact congrArg (fun p : ℕ => sc (wOf x0 b) (sOf x1 b) (aOf x2 b) (bOf x3 b) p g.val) (by show 2 * (n.val / 2) + n.val % 2 = n.val; omega)

end Cert.Proof.Val

end
-- ==== Proof.Val.Words.lean ====
/-
  The kernel's integer vectors read bit by bit (untrusted, hand-written): the codes out of the packed bytes, the packed
  words out of the quantised tile, the bytes out of the transposed words.
-/
module

public import proofs.«01_k».proof.Proof.Gen.KernelIdeal.Skeleton
public import proofs.«01_k».proof.Proof.Val.Quant
public import Idealize.ShloMosaic.Lib.Pointwise
public import Idealize.ShloMosaic.Lib.BitcastFour
public import Idealize.ShloMosaic.Lib.BitcastPair

@[expose] public section

set_option maxRecDepth 16384

noncomputable section

namespace Cert.Proof.Val

open Cert.KernelIdeal Cert.KernelIdeal.Gen
open Idealize.ShloMosaic Idealize.ShloMosaic.TcCoe

/-- A bit of a matrix of words read as words of another width, along the rows. -/
theorem bitcast2_getLsbD {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v) (p : Fin R)
    (q' : Nat) (hp : p.val = (a.val * w + q) / v) (hq' : q' = (a.val * w + q) % v) :
    (bitcast ⟨2, ![r, n]⟩ w x h (ix2 a l)).getLsbD q = (x (ix2 p l)).getLsbD q' := by
  rw [bitcast_getLsbD x h _ q hq hv, hq']
  have hrow : (⟨2, ![r, n]⟩ : Shape).row (ix2 a l) = a.val := rfl
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The four codes of a sixteen-bit word, spread to the four bytes of a 32-bit word. -/
theorem spread_getLsbD (w : BitVec 16) (c q : Nat) (hc : c < 4) (hq : q < 4) :
    ((w.signExtend 32 &&& 15#32) ||| ((w.signExtend 32 &&& 240#32) <<< 4) ||| ((w.signExtend 32 &&& 3840#32) <<< 8)
      ||| ((w.signExtend 32 &&& 61440#32) <<< 12)).getLsbD (8 * c + q) = w.getLsbD (4 * c + q) := by
  interval_cases c <;> interval_cases q <;> simp [BitVec.getLsbD_or, BitVec.getLsbD_and, BitVec.getLsbD_shiftLeft, BitVec.getLsbD_signExtend, BitVec.getElem_signExtend]

/-- The four codes in a word's bytes, gathered into its low half. -/
theorem gather_getLsbD (w : BitVec 32) (c q : Nat) (hc : c < 4) (hq : q < 4) :
    (((w &&& 15#32) ||| ((w.sshiftRight 4) &&& 240#32) ||| ((w.sshiftRight 8) &&& 3840#32)
      ||| ((w.sshiftRight 12) &&& 61440#32)).setWidth 16).getLsbD (4 * c + q) = w.getLsbD (8 * c + q) := by
  interval_cases c <;> interval_cases q <;> simp [BitVec.getLsbD_or, BitVec.getLsbD_and, BitVec.getLsbD_sshiftRight, BitVec.getElem_sshiftRight]

/-- A block of packed bytes with its rows read as sixteen-bit words, a bit of it. -/
theorem halfwords_getLsbD (x : IVec S128x128 8) (a : Fin 64) (l : Fin 128) (q : Nat) (hq : q < 16) (p : Fin 128) (hp : p.val = 2 * a.val + q / 8) :
    (bitcast S64x128 16 (bitcast S32x128 32 x bitcasts_S128x128_w8_S32x128_w32) bitcasts_S32x128_w32_S64x128_w16 (ix2 a l)).getLsbD q
      = (x (ix2 p l)).getLsbD (q % 8) := by
  rw [bitcast2_getLsbD _ _ a l q hq (by decide) ⟨a.val / 2, by omega⟩ (16 * (a.val % 2) + q) (by show a.val / 2 = _; omega) (by omega)]
  rw [bitcast2_getLsbD _ _ _ l _ (by omega) (by decide) p (q % 8) (by show p.val = (a.val / 2 * 32 + _) / 8; omega) (by show _ = (a.val / 2 * 32 + _) % 8; omega)]

/-- A sixteen-bit matrix read as bytes, a bit of it. -/
theorem bytes_getLsbD (x : IVec S64x128 16) (a : Fin 128) (l : Fin 128) (q : Nat) (hq : q < 8) (p : Fin 64) (hp : p.val = a.val / 2) :
    (bitcast S128x128 8 (bitcast S32x128 32 x bitcasts_S64x128_w16_S32x128_w32) bitcasts_S32x128_w32_S128x128_w8 (ix2 a l)).getLsbD q
      = (x (ix2 p l)).getLsbD (8 * (a.val % 2) + q) := by
  rw [bitcast2_getLsbD _ _ a l q hq (by decide) ⟨a.val / 4, by omega⟩ (8 * (a.val % 4) + q) (by show a.val / 4 = _; omega) (by omega)]
  rw [bitcast2_getLsbD _ _ _ l _ (by omega) (by decide) p (8 * (a.val % 2) + q) (by show p.val = (a.val / 4 * 32 + _) / 16; omega) (by show _ = (a.val / 4 * 32 + _) % 16; omega)]

/-- The codes of two blocks of packed bytes: row `4 k + c`, lane `l` is nibble `c % 2` of byte `2 (l % 64) + c / 2` in
    column `k` of the first block (lanes below 64) or the second. -/
theorem codes_getLsbD (x y : Vec Ideal S1x128x128 .i8) (R : Fin 512) (l : Fin 128) (q : Nat) (hq : q < 4) (p : Fin 128) (kc : Fin 128)
    (hp : p.val = 2 * (l.val % 64) + R.val % 4 / 2) (hk : kc.val = R.val / 4) :
    (k0_pay10 x y (ix2 R l)).getLsbD q
      = ((if l.val < 64 then x (ix3 0 p kc) else y (ix3 0 p kc)) : BitVec 8).getLsbD (4 * (R.val % 2) + q) := by
  unfold k0_pay10
  have e0 : ∀ (z : IVec S512x128 8), (trunci 4 z natLt_4_8 (ix2 R l)).getLsbD q = (z (ix2 R l)).getLsbD q := fun z => by
    show ((z (ix2 R l)).setWidth 4).getLsbD q = _
    simp [BitVec.getLsbD_setWidth, hq]
  rw [e0, bitcast2_getLsbD _ _ R l q (by omega) (by decide) kc (8 * (R.val % 4) + q) (by omega) (by omega)]
  refine (spread_getLsbD (transpose S128x128 [1, 0] (concatenate S128x128 0
      [⟨S64x128, bitcast S64x128 16 (bitcast S32x128 32 (shapeCast S128x128 x shapeCasts_S1x128x128_S128x128) bitcasts_S128x128_w8_S32x128_w32) bitcasts_S32x128_w32_S64x128_w16⟩,
       ⟨S64x128, bitcast S64x128 16 (bitcast S32x128 32 (shapeCast S128x128 y shapeCasts_S1x128x128_S128x128) bitcasts_S128x128_w8_S32x128_w32) bitcasts_S32x128_w32_S64x128_w16⟩]
      concatenates_S64x128_S64x128_S128x128_d0) transposes_S128x128_p1_0_S128x128 (ix2 kc l)) (R.val % 4) q (by omega) hq).trans ?_
  pointwise
  by_cases hl : l.val < 64
  · rw [dif_pos hl, if_pos hl, halfwords_getLsbD _ _ _ _ (by omega) p (by show p.val = 2 * l.val + _; omega)]
    rw [show (4 * (R.val % 4) + q) % 8 = 4 * (R.val % 2) + q by omega]
    pointwise
  · rw [dif_neg hl, if_neg hl, halfwords_getLsbD _ _ _ _ (by omega) p (by show p.val = 2 * (l.val - 64) + _; omega)]
    rw [show (4 * (R.val % 4) + q) % 8 = 4 * (R.val % 2) + q by omega]
    pointwise

/-- A row of eight, eight times over. -/
def cat8 (r : FVec Ideal S8x128 .f32) : FVec Ideal S64x128 .f32 :=
  concatenate S64x128 0 [⟨S8x128, r⟩, ⟨S8x128, r⟩, ⟨S8x128, r⟩, ⟨S8x128, r⟩, ⟨S8x128, r⟩, ⟨S8x128, r⟩, ⟨S8x128, r⟩, ⟨S8x128, r⟩]
    concatenates_S8x128_S8x128_S8x128_S8x128_S8x128_S8x128_S8x128_S8x128_S64x128_d0

theorem cat8_apply (r : FVec Ideal S8x128 .f32) (R : Fin 64) (l : Fin 128) (r8 : Fin 8) (h : r8.val = R.val % 8) :
    cat8 r (ix2 R l) = r (ix2 r8 l) := by
  unfold cat8
  pointwise
  have hR := R.isLt
  split_ifs <;> exact congrArg r (congrArg (fun a => ix2 a l) (Fin.ext (by rw [h]; simp only []; omega)))

/-- A tile of scaled values quantised, over the constants' values. -/
def qvecG (m h l : Ideal .f32) (c1 c2 : BitVec 32) (z : FVec Ideal S64x128 .f32) : IVec S64x128 4 :=
  trunci 4 (trunci 8 (trunci 16 (addi (fptosi 32 (minimumf (F := Ideal) (φ := .bf16) (broadcast S64x128 (h : Ideal .bf16))
    (maximumf (F := Ideal) (φ := .bf16) (broadcast S64x128 (l : Ideal .bf16)) (bitcastToFloat .bf16 (trunci 16 (addi (fptosi 32 (roundeven (addf
      z (broadcast S64x128 m)))) (broadcast S64x128 c1)) natLt_16_32)))))
    (broadcast S64x128 c2)) natLt_16_32) natLt_8_16) natLt_4_8

theorem qvecG_apply (m h l : Ideal .f32) (c1 c2 : BitVec 32) (z : FVec Ideal S64x128 .f32) (i : S64x128.Idx) : qvecG m h l c1 c2 z i = (((Ideal.fptosi 32 (min h (max l (Ideal.ofBits .bf16 ((Ideal.fptosi 32 (Ideal.liftRound Ideal.roundHalfEven (z i + m)) + c1).setWidth 16)))) + c2).setWidth 16).setWidth 8).setWidth 4 := by
  rfl

theorem qk_qvecG (z : FVec Ideal S64x128 .f32) (i : S64x128.Idx) : qk (z i) = qvecG (Ideal.ofBits .f32 0x4B404340#32) (Ideal.ofBits .f32 0x43470000#32) (Ideal.ofBits .f32 0x43390000#32) 1249902592#32 17024#32 z i := by
  rw [qvecG_apply, qk]

/-- A tile of scaled values quantised. -/
def qvec (z : FVec Ideal S64x128 .f32) : IVec S64x128 4 :=
  qvecG (Ideal.ofBits .f32 0x4B404340#32) (Ideal.ofBits .f32 0x43470000#32) (Ideal.ofBits .f32 0x43390000#32) 1249902592#32 17024#32 z

theorem qvec_apply (z : FVec Ideal S64x128 .f32) (i : S64x128.Idx) : qvec z i = qk (z i) := (qk_qvecG z i).symm

/-- A quantised tile before it is packed. -/
def qtile (r : FVec Ideal S8x128 .f32) (x : FVec Ideal S64x128 .f32) : IVec S64x128 4 := qvec (mulf x (cat8 r))

theorem qtile_apply (r : FVec Ideal S8x128 .f32) (x : FVec Ideal S64x128 .f32) (R : Fin 64) (l : Fin 128) (r8 : Fin 8) (h : r8.val = R.val % 8) :
    qtile r x (ix2 R l) = qk (x (ix2 R l) * r (ix2 r8 l)) := by
  unfold qtile
  rw [qvec_apply, ← cat8_apply r R l r8 h]
  rfl

/-- Four codes a word, gathered from the words' bytes. -/
def gather (W : IVec S16x128 32) : IVec S1x16x128 16 :=
  shapeCast S1x16x128 (trunci 16 (ori (ori (ori (andi W (broadcast S16x128 15#32)) (andi (shrsi W (broadcast S16x128 4#32)) (broadcast S16x128 240#32)))
    (andi (shrsi W (broadcast S16x128 8#32)) (broadcast S16x128 3840#32))) (andi (shrsi W (broadcast S16x128 12#32)) (broadcast S16x128 61440#32))) natLt_16_32)
    shapeCasts_S16x128_S1x16x128

theorem gather_apply (W : IVec S16x128 32) (rq : Fin 16) (l : Fin 128) :
    gather W (ix3 0 rq l) = ((W (ix2 rq l) &&& 15#32) ||| ((W (ix2 rq l)).sshiftRight 4 &&& 240#32) ||| ((W (ix2 rq l)).sshiftRight 8 &&& 3840#32)
      ||| ((W (ix2 rq l)).sshiftRight 12 &&& 61440#32)).setWidth 16 := by
  unfold gather
  refine (shapeCast_apply _ _ (ix3 0 rq l) (ix2 rq l) (by simp [Shape.rowMajor_val_two, Shape.rowMajor_val_three, ix2, ix3])).trans ?_
  rfl

/-- A quantised and packed tile. -/
def qpack (r : FVec Ideal S8x128 .f32) (x : FVec Ideal S64x128 .f32) : IVec S1x16x128 16 :=
  gather (bitcast S16x128 32 (extsi 8 (qtile r x) natLt_4_8) bitcasts_S64x128_w8_S16x128_w32)

theorem qpack_getLsbD (r : FVec Ideal S8x128 .f32) (x : FVec Ideal S64x128 .f32) (rq : Fin 16) (l : Fin 128) (c q : Nat) (hc : c < 4) (hq : q < 4)
    (R : Fin 64) (hR : R.val = 4 * rq.val + c) (r8 : Fin 8) (h8 : r8.val = R.val % 8) :
    (qpack r x (ix3 0 rq l)).getLsbD (4 * c + q) = (qk (x (ix2 R l) * r (ix2 r8 l))).getLsbD q := by
  unfold qpack
  rw [gather_apply]
  rw [gather_getLsbD _ c q hc hq, bitcast2_getLsbD _ _ rq l _ (by omega) (by decide) R q (by omega) (by omega)]
  have : extsi 8 (qtile r x) natLt_4_8 (ix2 R l) = (qtile r x (ix2 R l)).signExtend 8 := rfl
  rw [this, qtile_apply r x R l r8 h8]
  simp [BitVec.getElem_signExtend, BitVec.getLsbD_signExtend, hq, show q < 8 by omega]

/-- The bytes of the first sixty-four rows of the transposed words … -/
theorem outlo_getLsbD (Q : Vec Ideal S1x128x128 .i16) (y x : Fin 128) (q : Nat) (hq : q < 8) (p : Fin 128) (hp : p.val = y.val / 2) :
    (k0_pay127 (k0_pay126 (F := Ideal) Q) (ix3 0 y x)).getLsbD q = (Q (ix3 0 x p) : BitVec 16).getLsbD (8 * (y.val % 2) + q) := by
  have hp' : p = ⟨_, hp ▸ p.isLt⟩ := Fin.ext hp
  rw [hp']
  have e : k0_pay127 (k0_pay126 (F := Ideal) Q) (ix3 0 y x)
      = bitcast S128x128 8 (bitcast S32x128 32 (extractStridedSlice S64x128 ![0, 0] (k0_pay125 Q) slices_S128x128_o0_0_S64x128)
          bitcasts_S64x128_w16_S32x128_w32) bitcasts_S32x128_w32_S128x128_w8 (ix2 y x) := by
    unfold k0_pay127 k0_pay126
    exact shapeCast_apply _ _ (ix3 0 y x) (ix2 y x) (by simp [Shape.rowMajor_val_two, Shape.rowMajor_val_three, ix2, ix3])
  rw [e, bytes_getLsbD _ y x q hq ⟨y.val / 2, by omega⟩ rfl]
  pointwise [k0_pay125]

/-- … and of the last. -/
theorem outhi_getLsbD (Q : Vec Ideal S1x128x128 .i16) (y x : Fin 128) (q : Nat) (hq : q < 8) (p : Fin 128) (hp : p.val = 64 + y.val / 2) :
    (k0_pay128 (k0_pay125 (F := Ideal) Q) (ix3 0 y x)).getLsbD q = (Q (ix3 0 x p) : BitVec 16).getLsbD (8 * (y.val % 2) + q) := by
  have hp' : p = ⟨_, hp ▸ p.isLt⟩ := Fin.ext hp
  rw [hp']
  have e : k0_pay128 (k0_pay125 (F := Ideal) Q) (ix3 0 y x)
      = bitcast S128x128 8 (bitcast S32x128 32 (extractStridedSlice S64x128 ![64, 0] (k0_pay125 Q) slices_S128x128_o64_0_S64x128)
          bitcasts_S64x128_w16_S32x128_w32) bitcasts_S32x128_w32_S128x128_w8 (ix2 y x) := by
    unfold k0_pay128
    exact shapeCast_apply _ _ (ix3 0 y x) (ix2 y x) (by simp [Shape.rowMajor_val_two, Shape.rowMajor_val_three, ix2, ix3])
  rw [e, bytes_getLsbD _ y x q hq ⟨y.val / 2, by omega⟩ rfl]
  pointwise [k0_pay125]

end Cert.Proof.Val

end
-- ==== Proof.Val.Tile.lean ====
/-
  The kernel's float tiles read at an index (untrusted, hand-written): the effective weights of a tile, the low-rank
  product behind them, the running maximum of their absolute values, the scale and its reciprocal.
-/
module

public import proofs.«01_k».proof.Proof.Val.Words
public import Idealize.ShloMosaic.Lib.KernelVsHost

@[expose] public section

set_option maxRecDepth 16384

noncomputable section

namespace Cert.Proof.Val

open Cert.KernelIdeal Cert.KernelIdeal.Gen
open Idealize.ShloMosaic Idealize.ShloMosaic.TcCoe

/-- A tile of effective weights: sixty-four rows of codes from row `o1`, times the scales of the half `o2`, plus the low-rank
    product of that half. -/
def tileM (o1 o2 : Nat) (h1 : S512x128.Slices ![o1, 0] S64x128) (h2 : S16x256.Slices ![0, o2] S16x128) (h3 : S64x256.Slices ![0, o2] S64x128)
    (cs : IVec S512x128 4) (ss : FVec Ideal S16x256 .bf16) (ds : FVec Ideal S64x256 .f32) : FVec Ideal S64x128 .f32 :=
  addf (extf .f32 (mulf (sitofp .bf16 (extractStridedSlice S64x128 ![o1, 0] cs h1))
      (concatenate S64x128 0 [⟨S16x128, extractStridedSlice S16x128 ![0, o2] ss h2⟩, ⟨S16x128, extractStridedSlice S16x128 ![0, o2] ss h2⟩,
        ⟨S16x128, extractStridedSlice S16x128 ![0, o2] ss h2⟩, ⟨S16x128, extractStridedSlice S16x128 ![0, o2] ss h2⟩]
        concatenates_S16x128_S16x128_S16x128_S16x128_S64x128_d0)) bitsLt_bf16_f32)
    (extractStridedSlice S64x128 ![0, o2] ds h3)

/-- Sixteen rows four times over. -/
theorem cat4_apply (s : FVec Ideal S16x128 .bf16) (r : Fin 64) (l : Fin 128) (r16 : Fin 16) (h : r16.val = r.val % 16) :
    (concatenate S64x128 0 [⟨S16x128, s⟩, ⟨S16x128, s⟩, ⟨S16x128, s⟩, ⟨S16x128, s⟩]
        concatenates_S16x128_S16x128_S16x128_S16x128_S64x128_d0) (ix2 r l) = s (ix2 r16 l) := by
  pointwise
  have hR := r.isLt
  split_ifs <;> exact congrArg s (congrArg (fun a => ix2 a l) (Fin.ext (by rw [h]; simp only []; omega)))

theorem tileM_apply (o1 o2 : Nat) (h1 h2 h3) (cs ss ds) (r : Fin 64) (l : Fin 128) (R : Fin 512) (r16 : Fin 16) (L : Fin 256)
    (hR : R.val = o1 + r.val) (h16 : r16.val = r.val % 16) (hL : L.val = o2 + l.val) :
    tileM o1 o2 h1 h2 h3 cs ss ds (ix2 r l) = (((cs (ix2 R l)).toInt : ℝ) : EReal) * ss (ix2 r16 L) + ds (ix2 r L) := by
  have e1 : extractStridedSlice S64x128 ![o1, 0] cs h1 (ix2 r l) = cs (ix2 R l) :=
    extractStridedSlice_apply _ _ _ _ _ (fun a => match a with | ⟨0, _⟩ => hR | ⟨1, _⟩ => (Nat.zero_add _).symm)
  have e2 : extractStridedSlice S16x128 ![0, o2] ss h2 (ix2 r16 l) = ss (ix2 r16 L) :=
    extractStridedSlice_apply _ _ _ _ _ (fun a => match a with | ⟨0, _⟩ => (Nat.zero_add _).symm | ⟨1, _⟩ => hL)
  have e3 : extractStridedSlice S64x128 ![0, o2] ds h3 (ix2 r l) = ds (ix2 r L) :=
    extractStridedSlice_apply _ _ _ _ _ (fun a => match a with | ⟨0, _⟩ => (Nat.zero_add _).symm | ⟨1, _⟩ => hL)
  rw [← e1, ← e2, ← e3, ← cat4_apply (extractStridedSlice S16x128 ![0, o2] ss h2) r l r16 h16]
  rfl

/-- The left factor of the low-rank product: row `r` keeps the lanes of the quarter `r % 4`. -/
theorem lhs_apply (msk : IVec S8x128 32) (w : Vec Ideal S32x2x128 .bf16) (r : Fin 64) (j : Fin 128)
    (hm : ∀ r8 : Fin 8, msk (ix2 r8 j) = if j.val / 32 = 2 * (r8.val % 2) then 65535#32 else if j.val / 32 = 2 * (r8.val % 2) + 1 then 4294901760#32 else 0#32)
    (k : Fin 32) (hk : k.val = r.val / 2) (h : Fin 2) (hh : h.val = r.val % 2) :
    k0_pay29 msk w (ix2 r j) = if j.val / 32 = r.val % 4 then w (ix3 k h j) else 0 := by
  have hR := r.isLt
  pointwise [k0_pay29]
  have hc : (if h : r.val / 2 < 8 then msk (ix2 ⟨r.val / 2, h⟩ j) else if h' : r.val / 2 - 8 < 8 then msk (ix2 ⟨r.val / 2 - 8, h'⟩ j) else
      if h'' : r.val / 2 - 8 - 8 < 8 then msk (ix2 ⟨r.val / 2 - 8 - 8, h''⟩ j) else msk (ix2 ⟨r.val / 2 - 8 - 8 - 8, by omega⟩ j))
      = msk (ix2 ⟨r.val / 2 % 8, by omega⟩ j) := by
    split_ifs <;> exact congrArg msk (congrArg (fun a => ix2 a j) (Fin.ext (by simp only []; omega)))
  rw [hc, hm]
  have hk' : k = ⟨r.val / 2, by omega⟩ := Fin.ext hk
  rw [hk']
  by_cases hp : r.val % 2 = 0
  · obtain rfl : h = 0 := Fin.ext (by rw [hh, hp]; rfl)
    rw [if_pos hp]
    by_cases hq : j.val / 32 = r.val % 4
    · rw [if_pos hq, if_pos (by show _ = 2 * (r.val / 2 % 8 % 2); omega)]
      rfl
    · rw [if_neg hq, if_neg (by show ¬ _ = 2 * (r.val / 2 % 8 % 2); omega)]
      split_ifs <;> rfl
  · obtain rfl : h = 1 := Fin.ext (by rw [hh]; show r.val % 2 = 1; omega)
    rw [if_neg hp]
    by_cases hq : j.val / 32 = r.val % 4
    · rw [if_pos hq, if_neg (by show ¬ _ = 2 * (r.val / 2 % 8 % 2); omega), if_pos (by show _ = 2 * (r.val / 2 % 8 % 2) + 1; omega)]
      rfl
    · rw [if_neg hq]
      split_ifs
      · rfl
      · exfalso
        rename_i hh2
        have : j.val / 32 = 2 * (r.val / 2 % 8 % 2) + 1 := hh2
        omega
      · rfl

/-- A sum over the hundred and twenty-eight rows that vanishes off the eight rows of one unit. -/
theorem sparse_sum (g : Fin 128 → EReal) (c t : Nat) (hc : c < 4) (ht : t < 4) (h0 : ∀ j : Fin 128, ¬ (j.val / 32 = c ∧ j.val % 32 / 8 = t) → g j = 0) :
    ∑ j, g j = ∑ ρ : Fin 8, g ⟨32 * c + 8 * t + ρ.val, by omega⟩ := by
  symm
  refine Fintype.sum_of_injective (fun ρ : Fin 8 => (⟨32 * c + 8 * t + ρ.val, by omega⟩ : Fin 128)) (fun a b hab => ?_) _ g (fun i hi => ?_) (fun _ => rfl)
  · exact Fin.ext (by have := congrArg Fin.val hab; simp only [] at this; omega)
  · refine h0 i (fun hh => hi ⟨⟨i.val % 8, by omega⟩, Fin.ext ?_⟩)
    show 32 * c + 8 * t + i.val % 8 = i.val
    omega

/-- Twice a sum. -/
theorem two_sum {n : Nat} (f : Fin n → EReal) : ∑ i, 2 * f i = 2 * ∑ i, f i := by
  have h2 : (0 : EReal) ≤ 2 := by norm_num
  have ht : (2 : EReal) ≠ ⊤ := by exact EReal.coe_ne_top 2
  classical
  refine Finset.induction_on (Finset.univ : Finset (Fin n)) (by simp) (fun a s ha ih => ?_)
  rw [Finset.sum_insert ha, Finset.sum_insert ha, ih, EReal.left_distrib_of_nonneg_of_ne_top h2 ht]

/-- The low-rank product of a tile: twice the sum over the rank. -/
theorem delta_apply (msk : IVec S8x128 32) (w : Vec Ideal S32x2x128 .bf16) (x4 : Vec Ideal S1x128x256 .bf16) (r : Fin 64) (L : Fin 256)
    (hm : ∀ (r8 : Fin 8) (j : Fin 128), msk (ix2 r8 j) = if j.val / 32 = 2 * (r8.val % 2) then 65535#32 else if j.val / 32 = 2 * (r8.val % 2) + 1 then 4294901760#32 else 0#32)
    (Av : ℕ → ℕ → EReal) (Bv : ℕ → EReal) (k : Fin 32) (hk : k.val = r.val / 2) (h : Fin 2) (hh : h.val = r.val % 2)
    (hw : ∀ j : Fin 128, w (ix3 k h j) = Av (j.val % 8) (j.val % 32 / 8))
    (hx : ∀ j : Fin 128, j.val / 32 = r.val % 4 → x4 (ix3 0 j L) = (Bv (j.val % 8) * 2) * (if j.val % 32 / 8 = L.val / 64 then 1 else 0)) :
    k0_pay40 msk w x4 (ix2 r L) = 2 * ∑ ρ : Fin 8, Bv ρ.val * Av ρ.val (L.val / 64) := by
  have hL := L.isLt
  have e : k0_pay40 msk w x4 = matmul dot_S64x128_S128x256_S64x256_1_0_0_1_n_n none (k0_pay29 msk w) (shapeCast S128x256 x4 shapeCasts_S1x128x256_S128x256)
      (constant S64x256 .f32 0x00000000#32) := rfl
  rw [e]
  generalize hA : k0_pay29 msk w = lhs
  generalize hB : shapeCast S128x256 x4 shapeCasts_S1x128x256_S128x256 = rhs
  have e2 : matmul dot_S64x128_S128x256_S64x256_1_0_0_1_n_n none (φ₂ := .bf16) lhs rhs (constant (F := Ideal) S64x256 .f32 0x00000000#32) (ix2 r L)
      = ∑ j : Fin 128, lhs (ix2 r j) * rhs (ix2 j L) := by
    pointwise
  rw [e2]
  have hr : ∀ j, rhs (ix2 j L) = x4 (ix3 0 j L) := fun j => by
    rw [← hB]
    exact shapeCast_apply _ _ (ix2 j L) (ix3 0 j L) (by simp [Shape.rowMajor_val_two, Shape.rowMajor_val_three, ix2, ix3])
  have hl : ∀ j, lhs (ix2 r j) = if j.val / 32 = r.val % 4 then w (ix3 k h j) else 0 := fun j => by
    rw [← hA]
    exact lhs_apply msk w r j (fun r8 => hm r8 j) k hk h hh
  rw [sparse_sum _ (r.val % 4) (L.val / 64) (by omega) (by omega) (fun j hj => ?_), ← two_sum]
  · refine Finset.sum_congr rfl (fun ρ _ => ?_)
    rw [hr, hl, if_pos (by show (32 * (r.val % 4) + 8 * (L.val / 64) + ρ.val) / 32 = _; omega), hw,
      hx _ (by show (32 * (r.val % 4) + 8 * (L.val / 64) + ρ.val) / 32 = _; omega)]
    have e8 : (32 * (r.val % 4) + 8 * (L.val / 64) + ρ.val) % 8 = ρ.val := by omega
    have et : (32 * (r.val % 4) + 8 * (L.val / 64) + ρ.val) % 32 / 8 = L.val / 64 := by omega
    simp only [e8, et, if_true, mul_one]
    rw [mul_comm, mul_comm (Bv ρ.val) 2, mul_assoc]
  · rw [hr, hl]
    by_cases hc : j.val / 32 = r.val % 4
    · rw [if_pos hc, hx j hc, if_neg (fun ht => hj ⟨hc, ht⟩), mul_zero, mul_zero]
    · rw [if_neg hc, zero_mul]

/-- The running maximum takes in a tile's eight blocks of eight rows. -/
theorem step_le (a : FVec Ideal S8x128 .f32) (m : FVec Ideal S64x128 .f32) (r : Fin 8) (l : Fin 128) (y : EReal) :
    k0_pay43 a m (ix2 r l) ≤ y ↔ a (ix2 r l) ≤ y ∧ ∀ c : Fin 8, eabs (m (ix2 ⟨8 * c.val + r.val, by omega⟩ l)) ≤ y := by
  have e : k0_pay43 a m (ix2 r l) = max (max (max (max (max (max (max (max (a (ix2 r l)) (eabs (m (ix2 ⟨8 * 0 + r.val, by omega⟩ l)))) (eabs (m (ix2 ⟨8 * 1 + r.val, by omega⟩ l))))
      (eabs (m (ix2 ⟨8 * 2 + r.val, by omega⟩ l)))) (eabs (m (ix2 ⟨8 * 3 + r.val, by omega⟩ l)))) (eabs (m (ix2 ⟨8 * 4 + r.val, by omega⟩ l))))
      (eabs (m (ix2 ⟨8 * 5 + r.val, by omega⟩ l)))) (eabs (m (ix2 ⟨8 * 6 + r.val, by omega⟩ l)))) (eabs (m (ix2 ⟨8 * 7 + r.val, by omega⟩ l))) := by
    have s : ∀ (o : Nat) (h : S64x128.Slices ![o, 0] S8x128) (R : Fin 64), R.val = o + r.val → extractStridedSlice S8x128 ![o, 0] m h (ix2 r l) = m (ix2 R l) :=
      fun o h R hR => extractStridedSlice_apply _ _ _ _ _ (fun a => match a with | ⟨0, _⟩ => hR | ⟨1, _⟩ => (Nat.zero_add _).symm)
    unfold eabs
    rw [← s 0 slices_S64x128_o0_0_S8x128 ⟨8 * 0 + r.val, by omega⟩ rfl, ← s 8 slices_S64x128_o8_0_S8x128 ⟨8 * 1 + r.val, by omega⟩ rfl,
      ← s 16 slices_S64x128_o16_0_S8x128 ⟨8 * 2 + r.val, by omega⟩ rfl, ← s 24 slices_S64x128_o24_0_S8x128 ⟨8 * 3 + r.val, by omega⟩ rfl,
      ← s 32 slices_S64x128_o32_0_S8x128 ⟨8 * 4 + r.val, by omega⟩ rfl, ← s 40 slices_S64x128_o40_0_S8x128 ⟨8 * 5 + r.val, by omega⟩ rfl,
      ← s 48 slices_S64x128_o48_0_S8x128 ⟨8 * 6 + r.val, by omega⟩ rfl, ← s 56 slices_S64x128_o56_0_S8x128 ⟨8 * 7 + r.val, by omega⟩ rfl]
    rfl
  rw [e]
  simp only [max_le_iff, Fin.forall_fin_succ, Fin.forall_fin_zero]
  simp [and_assoc]

/-- The scale of a vector of maxima, over the constants' values. -/
def scaleVecG (z s o : EReal) (w : FVec Ideal S8x128 .f32) : FVec Ideal S8x128 .f32 :=
  select (cmpf (F := Ideal) (φ := .f32) .oeq w (broadcast S8x128 z)) (broadcast S8x128 o) (divf w (broadcast S8x128 (s : Ideal .f32)))

theorem scaleVecG_apply (z s o : EReal) (w : FVec Ideal S8x128 .f32) (i : S8x128.Idx) :
    scaleVecG z s o w i = Scalar.select (Ideal.cmp .oeq (w i) z) o (Ideal.div (w i) s) := rfl

/-- The vector of maxima with its two halves of rows taken together. -/
def fold2 (v : FVec Ideal S8x128 .f32) : FVec Ideal S8x128 .f32 := maximumf v (dynamicRotate 0 4#32 none v rotates_S8x128_d0)

theorem fold2_apply (v : FVec Ideal S8x128 .f32) (r : Fin 8) (l : Fin 128) : fold2 v (ix2 r l) = max (v (ix2 r l)) (v (ix2 ⟨(r.val + 4) % 8, by omega⟩ l)) := by
  have e : dynamicRotate 0 4#32 none v rotates_S8x128_d0 (ix2 r l) = v (ix2 ⟨(r.val + 4) % 8, by omega⟩ l) :=
    dynamicRotate_apply _ _ _ _ _ _ (fun b => match b with
      | ⟨0, _⟩ => by
        refine Eq.trans ?_ (if_pos (Fin.ext rfl)).symm
        show (r.val + 4) % 8 = (r.val + 8 - (4#32).toNat % 8) % 8
        have : (4#32).toNat = 4 := rfl
        rw [this]
        congr 1
      | ⟨1, _⟩ => (if_neg (fun h => absurd (congrArg Fin.val h) Nat.one_ne_zero)).symm)
  rw [← e]
  rfl

/-- A vector of maxima made scales. -/
def scv (v : FVec Ideal S8x128 .f32) : FVec Ideal S8x128 .f32 :=
  scaleVecG (Ideal.ofBits .f32 0x00000000#32) (Ideal.ofBits .f32 0x40E00000#32) (Ideal.ofBits .f32 0x3F800000#32) (fold2 v)

theorem scv_apply (v : FVec Ideal S8x128 .f32) (r : Fin 8) (l : Fin 128) :
    scv v (ix2 r l) = scaleOf (max (v (ix2 r l)) (v (ix2 ⟨(r.val + 4) % 8, by omega⟩ l))) := by
  unfold scv
  rw [scaleVecG_apply, fold2_apply, seven_eq, one_eq]
  generalize max (v (ix2 r l)) (v (ix2 ⟨(r.val + 4) % 8, by omega⟩ l)) = a
  have hz : Ideal.ofBits .f32 0x00000000#32 = (0 : EReal) := by simp [Ideal.ofBits, Ideal.ieee]
  rw [hz]
  unfold scaleOf Scalar.select Ideal.cmp
  by_cases h : a = 0 <;> simp [h]

/-- The reciprocal of a vector of scales. -/
def rcp (o : EReal) (s : FVec Ideal S8x128 .f32) : FVec Ideal S8x128 .f32 := divf (broadcast S8x128 (o : Ideal .f32)) s

theorem rcp_apply (o : EReal) (s : FVec Ideal S8x128 .f32) (i : S8x128.Idx) : rcp o s i = Ideal.div o (s i) := rfl

theorem k0_pay129_eq (v : FVec Ideal S8x128 .f32) : k0_pay129 v = scv v := rfl
theorem k0_pay131_eq (v : FVec Ideal S8x128 .f32) : k0_pay131 v = rcp (Ideal.ofBits .f32 0x3F800000#32) (scv v) := rfl

end Cert.Proof.Val

end
-- ==== Proof.Val.Pay.lean ====
/-
  The kernel's printed vector payloads, identified with the tiles of the value proof (untrusted, hand-written): each holds by
  unfolding.
-/
module

public import proofs.«01_k».proof.Proof.Val.Tile

@[expose] public section

set_option maxRecDepth 65536

noncomputable section

namespace Cert.Proof.Val

open Cert.KernelIdeal Cert.KernelIdeal.Gen
open Idealize.ShloMosaic Idealize.ShloMosaic.TcCoe

variable (msk : IVec S8x128 32) (cs : IVec S512x128 4) (ss : FVec Ideal S16x256 .bf16) (w : Vec Ideal S32x2x128 .bf16)
  (x4 : Vec Ideal S1x128x256 .bf16) (a : FVec Ideal S8x128 .f32) (D : FVec Ideal S64x256 .f32) (r s v : FVec Ideal S8x128 .f32)
  (x : FVec Ideal S64x128 .f32)

/-- The tile of rows 0, half 0. -/
abbrev tl00 : FVec Ideal S64x128 .f32 :=
  tileM 0 0 slices_S512x128_o0_0_S64x128 slices_S16x256_o0_0_S16x128 slices_S64x256_o0_0_S64x128 cs ss D

/-- The tile of rows 0, half 1. -/
abbrev tl01 : FVec Ideal S64x128 .f32 :=
  tileM 0 128 slices_S512x128_o0_0_S64x128 slices_S16x256_o0_128_S16x128 slices_S64x256_o0_128_S64x128 cs ss D

/-- The tile of rows 64, half 0. -/
abbrev tl10 : FVec Ideal S64x128 .f32 :=
  tileM 64 0 slices_S512x128_o64_0_S64x128 slices_S16x256_o0_0_S16x128 slices_S64x256_o0_0_S64x128 cs ss D

/-- The tile of rows 64, half 1. -/
abbrev tl11 : FVec Ideal S64x128 .f32 :=
  tileM 64 128 slices_S512x128_o64_0_S64x128 slices_S16x256_o0_128_S16x128 slices_S64x256_o0_128_S64x128 cs ss D

/-- The tile of rows 128, half 0. -/
abbrev tl20 : FVec Ideal S64x128 .f32 :=
  tileM 128 0 slices_S512x128_o128_0_S64x128 slices_S16x256_o0_0_S16x128 slices_S64x256_o0_0_S64x128 cs ss D

/-- The tile of rows 128, half 1. -/
abbrev tl21 : FVec Ideal S64x128 .f32 :=
  tileM 128 128 slices_S512x128_o128_0_S64x128 slices_S16x256_o0_128_S16x128 slices_S64x256_o0_128_S64x128 cs ss D

/-- The tile of rows 192, half 0. -/
abbrev tl30 : FVec Ideal S64x128 .f32 :=
  tileM 192 0 slices_S512x128_o192_0_S64x128 slices_S16x256_o0_0_S16x128 slices_S64x256_o0_0_S64x128 cs ss D

/-- The tile of rows 192, half 1. -/
abbrev tl31 : FVec Ideal S64x128 .f32 :=
  tileM 192 128 slices_S512x128_o192_0_S64x128 slices_S16x256_o0_128_S16x128 slices_S64x256_o0_128_S64x128 cs ss D

/-- The tile of rows 256, half 0. -/
abbrev tl40 : FVec Ideal S64x128 .f32 :=
  tileM 256 0 slices_S512x128_o256_0_S64x128 slices_S16x256_o0_0_S16x128 slices_S64x256_o0_0_S64x128 cs ss D

/-- The tile of rows 256, half 1. -/
abbrev tl41 : FVec Ideal S64x128 .f32 :=
  tileM 256 128 slices_S512x128_o256_0_S64x128 slices_S16x256_o0_128_S16x128 slices_S64x256_o0_128_S64x128 cs ss D

/-- The tile of rows 320, half 0. -/
abbrev tl50 : FVec Ideal S64x128 .f32 :=
  tileM 320 0 slices_S512x128_o320_0_S64x128 slices_S16x256_o0_0_S16x128 slices_S64x256_o0_0_S64x128 cs ss D

/-- The tile of rows 320, half 1. -/
abbrev tl51 : FVec Ideal S64x128 .f32 :=
  tileM 320 128 slices_S512x128_o320_0_S64x128 slices_S16x256_o0_128_S16x128 slices_S64x256_o0_128_S64x128 cs ss D

/-- The tile of rows 384, half 0. -/
abbrev tl60 : FVec Ideal S64x128 .f32 :=
  tileM 384 0 slices_S512x128_o384_0_S64x128 slices_S16x256_o0_0_S16x128 slices_S64x256_o0_0_S64x128 cs ss D

/-- The tile of rows 384, half 1. -/
abbrev tl61 : FVec Ideal S64x128 .f32 :=
  tileM 384 128 slices_S512x128_o384_0_S64x128 slices_S16x256_o0_128_S16x128 slices_S64x256_o0_128_S64x128 cs ss D

/-- The tile of rows 448, half 0. -/
abbrev tl70 : FVec Ideal S64x128 .f32 :=
  tileM 448 0 slices_S512x128_o448_0_S64x128 slices_S16x256_o0_0_S16x128 slices_S64x256_o0_0_S64x128 cs ss D

/-- The tile of rows 448, half 1. -/
abbrev tl71 : FVec Ideal S64x128 .f32 :=
  tileM 448 128 slices_S512x128_o448_0_S64x128 slices_S16x256_o0_128_S16x128 slices_S64x256_o0_128_S64x128 cs ss D

theorem d0 : k0_pay21 (k0_pay16 w) (k0_pay17 w) (k0_pay18 msk) (k0_pay19 msk) k0_pay20 x4 = (k0_pay40 msk w x4) := rfl
theorem d3 : k0_pay49 msk w x4 = (k0_pay40 msk w x4) := rfl
theorem d4 : k0_pay62 (k0_pay57 w) (k0_pay58 w) (k0_pay59 msk) (k0_pay60 msk) k0_pay61 x4 = (k0_pay40 msk w x4) := rfl
theorem d6 : k0_pay81 msk w x4 = (k0_pay40 msk w x4) := rfl
theorem d7 : k0_pay90 msk w x4 = (k0_pay40 msk w x4) := rfl
theorem t00 : k0_pay23 cs ss (k0_pay16 w) (k0_pay17 w) (k0_pay18 msk) (k0_pay19 msk) k0_pay20 x4 = tl00 cs ss (k0_pay40 msk w x4) := shapeCast_self _ _
theorem m00 : k0_pay24 cs a ss (k0_pay16 w) (k0_pay17 w) (k0_pay18 msk) (k0_pay19 msk) k0_pay20 x4 = k0_pay43 a (tl00 cs ss (k0_pay40 msk w x4)) := rfl
theorem t01 : k0_pay27 D (k0_pay25 cs ss) = tl01 cs ss D := shapeCast_self _ _
theorem m01 : k0_pay28 a D (k0_pay25 cs ss) = k0_pay43 a (tl01 cs ss D) := rfl
theorem t10 : k0_pay33 cs ss (k0_pay29 msk w) (k0_pay30 x4) (constant (F := Ideal) S64x256 .f32 0#32) = tl10 cs ss (k0_pay40 msk w x4) := shapeCast_self _ _
theorem m10 : k0_pay34 cs ss a (k0_pay29 msk w) (k0_pay30 x4) (constant (F := Ideal) S64x256 .f32 0#32) = k0_pay43 a (tl10 cs ss (k0_pay40 msk w x4)) := rfl
theorem t11 : k0_pay36 cs ss (k0_pay29 msk w) (k0_pay30 x4) (constant (F := Ideal) S64x256 .f32 0#32) = tl11 cs ss (k0_pay40 msk w x4) := shapeCast_self _ _
theorem m11 : k0_pay39 (k0_pay35 cs ss (k0_pay29 msk w) (k0_pay30 x4) (constant (F := Ideal) S64x256 .f32 0#32)) (k0_pay37 cs ss a (k0_pay29 msk w) (k0_pay30 x4) (constant (F := Ideal) S64x256 .f32 0#32)) (k0_pay38 cs ss (k0_pay29 msk w) (k0_pay30 x4) (constant (F := Ideal) S64x256 .f32 0#32)) = k0_pay43 a (tl11 cs ss (k0_pay40 msk w x4)) := rfl
theorem t50 : k0_pay74 cs ss (k0_pay70 msk w) (k0_pay71 x4) (constant (F := Ideal) S64x256 .f32 0#32) = tl50 cs ss (k0_pay40 msk w x4) := shapeCast_self _ _
theorem m50 : k0_pay75 cs ss a (k0_pay70 msk w) (k0_pay71 x4) (constant (F := Ideal) S64x256 .f32 0#32) = k0_pay43 a (tl50 cs ss (k0_pay40 msk w x4)) := rfl
theorem t51 : k0_pay77 cs ss (k0_pay70 msk w) (k0_pay71 x4) (constant (F := Ideal) S64x256 .f32 0#32) = tl51 cs ss (k0_pay40 msk w x4) := shapeCast_self _ _
theorem m51 : k0_pay80 (k0_pay76 cs ss (k0_pay70 msk w) (k0_pay71 x4) (constant (F := Ideal) S64x256 .f32 0#32)) (k0_pay78 cs ss a (k0_pay70 msk w) (k0_pay71 x4) (constant (F := Ideal) S64x256 .f32 0#32)) (k0_pay79 cs ss (k0_pay70 msk w) (k0_pay71 x4) (constant (F := Ideal) S64x256 .f32 0#32)) = k0_pay43 a (tl51 cs ss (k0_pay40 msk w x4)) := rfl
theorem t20 : k0_pay42 msk cs ss w x4 = tl20 cs ss (k0_pay40 msk w x4) := shapeCast_self _ _
theorem m20 : k0_pay43 a (k0_pay41 msk cs ss w x4) = k0_pay43 a (tl20 cs ss (k0_pay40 msk w x4)) := rfl
theorem t21 : k0_pay45 cs ss D = tl21 cs ss D := shapeCast_self _ _
theorem m21 : k0_pay48 (k0_pay46 cs ss a D) (k0_pay47 cs ss D) = k0_pay43 a (tl21 cs ss D) := rfl
theorem t60 : k0_pay83 msk cs ss w x4 = tl60 cs ss (k0_pay40 msk w x4) := shapeCast_self _ _
theorem m60 : k0_pay84 a (k0_pay82 msk cs ss w x4) = k0_pay43 a (tl60 cs ss (k0_pay40 msk w x4)) := rfl
theorem t61 : k0_pay86 cs ss D = tl61 cs ss D := shapeCast_self _ _
theorem m61 : k0_pay89 (k0_pay87 cs ss a D) (k0_pay88 cs ss D) = k0_pay43 a (tl61 cs ss D) := rfl
theorem t30 : k0_pay51 msk cs ss w x4 = tl30 cs ss (k0_pay40 msk w x4) := shapeCast_self _ _
theorem m30 : k0_pay53 (k0_pay50 msk cs ss w x4) (k0_pay52 msk cs ss a w x4) = k0_pay43 a (tl30 cs ss (k0_pay40 msk w x4)) := rfl
theorem t31 : k0_pay55 cs ss D = tl31 cs ss D := shapeCast_self _ _
theorem m31 : k0_pay56 cs ss a D = k0_pay43 a (tl31 cs ss D) := rfl
theorem t40 : k0_pay64 cs ss (k0_pay57 w) (k0_pay58 w) (k0_pay59 msk) (k0_pay60 msk) k0_pay61 x4 = tl40 cs ss (k0_pay40 msk w x4) := shapeCast_self _ _
theorem m40 : k0_pay65 cs ss a (k0_pay57 w) (k0_pay58 w) (k0_pay59 msk) (k0_pay60 msk) k0_pay61 x4 = k0_pay43 a (tl40 cs ss (k0_pay40 msk w x4)) := rfl
theorem t41 : k0_pay68 D (k0_pay66 cs ss) = tl41 cs ss D := shapeCast_self _ _
theorem m41 : k0_pay69 a D (k0_pay66 cs ss) = k0_pay43 a (tl41 cs ss D) := rfl
theorem t70 : k0_pay92 msk cs ss w x4 = tl70 cs ss (k0_pay40 msk w x4) := shapeCast_self _ _
theorem m70 : k0_pay97 (k0_pay91 msk cs ss w x4) (k0_pay93 msk cs ss a w x4) = scv (k0_pay43 a (tl70 cs ss (k0_pay40 msk w x4))) := rfl
theorem t71 : k0_pay95 cs ss D = tl71 cs ss D := shapeCast_self _ _
theorem m71 : k0_pay96 cs ss a D = k0_pay43 a (tl71 cs ss D) := rfl
theorem rec0 : k0_pay100 s = rcp (Ideal.ofBits .f32 0x3F800000#32) s := rfl
theorem rec1 : k0_pay131 v = rcp (Ideal.ofBits .f32 0x3F800000#32) (scv v) := rfl

theorem q00 : k0_pay104 (k0_pay101 (F := Ideal) s x) (k0_pay102 (F := Ideal) s x) (k0_pay103 (F := Ideal) s x) = qpack (rcp (Ideal.ofBits .f32 0x3F800000#32) s) x := rfl
theorem q01 : k0_pay108 (k0_pay105 (F := Ideal) r x) (k0_pay106 (F := Ideal) r x) k0_pay107 = qpack r x := rfl
theorem q02 : k0_pay113 (k0_pay109 (F := Ideal) r x) (k0_pay110 (F := Ideal) r x) (k0_pay111 (F := Ideal) r x) k0_pay112 = qpack r x := rfl
theorem q03 : k0_pay116 (k0_pay114 (F := Ideal) r x) (k0_pay115 (F := Ideal) r x) 4#32 = qpack r x := rfl
theorem q04 : k0_pay118 (k0_pay117 (F := Ideal) r x) = qpack r x := rfl
theorem q05 : k0_pay120 (k0_pay119 (F := Ideal) r x) = qpack r x := rfl
theorem q06 : k0_pay122 (k0_pay121 (F := Ideal) r x) = qpack r x := rfl
theorem q07 : k0_pay124 (FloatOps.ofBits (F := Ideal) FTy.f32 1128726528#32) (k0_pay123 (F := Ideal) r x) = qpack r x := rfl
theorem q10 : k0_pay134 (F := Ideal) (k0_pay132 (F := Ideal) v x) k0_pay133 = qpack (rcp (Ideal.ofBits .f32 0x3F800000#32) (scv v)) x := rfl
theorem q11 : k0_pay136 (k0_pay135 (F := Ideal) r x) (FloatOps.ofBits (F := Ideal) FTy.f32 1127809024#32) (FloatOps.ofBits (F := Ideal) FTy.f32 1128726528#32) = qpack r x := rfl
theorem q12 : k0_pay138 (F := Ideal) (k0_pay137 (F := Ideal) r x) = qpack r x := rfl
theorem q13 : k0_pay140 (k0_pay139 (F := Ideal) r x) = qpack r x := rfl
theorem q14 : k0_pay142 (k0_pay141 (F := Ideal) r x) = qpack r x := rfl
theorem q15 : k0_pay144 (k0_pay143 (F := Ideal) r x) = qpack r x := rfl
theorem q16 : k0_pay146 (k0_pay145 (F := Ideal) r x) = qpack r x := rfl
theorem q17 : k0_pay150 (k0_pay148 (F := Ideal) r x) (k0_pay149 (F := Ideal) r x) 61440#32 = qpack r x := rfl

end Cert.Proof.Val

end
-- ==== Proof.Val.Ins.lean ====
/-
  What one trip of the counted loop loads (untrusted, hand-written): the lane mask, the codes, the scales and the low-rank
  factor, at an index, over the operands of one batch.
-/
module

public import proofs.«01_k».proof.Proof.Ideal.Trip
public import proofs.«01_k».proof.Proof.Val.Pay
public import proofs.«01_k».proof.Proof.Val.Spec

@[expose] public section

set_option maxRecDepth 16384

noncomputable section

namespace Cert.Proof.Val

open Cert.KernelIdeal Cert.KernelIdeal.Gen
open Idealize.ShloMosaic Idealize.ShloMosaic.TcCoe
open Cert.Proof.PI (Cts)

theorem trips_lt (k : Fin k0_t1_loop.trips) : k.val < 10 := Nat.lt_of_lt_of_le k.isLt (by decide +kernel)

theorem off1_0 : ∀ k : Fin k0_t1_loop.trips, k0_off1 k 0#32 = ![0, 0, 512 * k.val] := by decide +kernel
theorem off1_1 : ∀ k : Fin k0_t1_loop.trips, k0_off1 k 128#32 = ![0, 0, 512 * k.val + 128] := by decide +kernel
theorem off1_2 : ∀ k : Fin k0_t1_loop.trips, k0_off1 k 256#32 = ![0, 0, 512 * k.val + 256] := by decide +kernel
theorem off1_3 : ∀ k : Fin k0_t1_loop.trips, k0_off1 k 384#32 = ![0, 0, 512 * k.val + 384] := by decide +kernel
theorem off2_0 : ∀ k : Fin k0_t1_loop.trips, k0_off2 k 0#32 = ![0, 0, 512 * k.val] := by decide +kernel
theorem off2_1 : ∀ k : Fin k0_t1_loop.trips, k0_off2 k 128#32 = ![0, 0, 512 * k.val + 128] := by decide +kernel
theorem off2_2 : ∀ k : Fin k0_t1_loop.trips, k0_off2 k 256#32 = ![0, 0, 512 * k.val + 256] := by decide +kernel
theorem off2_3 : ∀ k : Fin k0_t1_loop.trips, k0_off2 k 384#32 = ![0, 0, 512 * k.val + 384] := by decide +kernel
theorem off3_eq : ∀ k : Fin k0_t1_loop.trips, k0_off3 k = ![0, k.val, 0, 0] := by decide +kernel
theorem off4_eq : ∀ k : Fin k0_t1_loop.trips, k0_off4 k = ![0, k.val, 0, 0] := by decide +kernel
theorem off5_eq : ∀ k : Fin k0_t1_loop.trips, k0_off5 k = ![0, k.val, 0, 128] := by decide +kernel

/-- The lane mask: row `r` keeps the low half-word of the lanes of quarter `2 (r % 2)`, the high one of the next quarter. -/
theorem mask_eq : ∀ (r8 : Fin 8) (j : Fin 128), k0_pay1 k0_pay153 k0_pay154 k0_pay155 (ix2 r8 j)
    = if j.val / 32 = 2 * (r8.val % 2) then 65535#32 else if j.val / 32 = 2 * (r8.val % 2) + 1 then 4294901760#32 else 0#32 := by
  decide +kernel

/-- The four input blocks hold the operands of one batch: the codes `W`, the scales `S` at the kernel's lanes, the factor
    `A`, and twice the factor `B` spread over the diagonal of the column quarters. -/
structure Ins (c : Dev nD)
    (arg1 : Memref sig .tc .vmem S1x128x5120 .i8) (arg2 : Memref sig .tc .vmem S1x10x16x256 .bf16)
    (arg3 : Memref sig .tc .vmem S1x8x5120 .bf16) (arg4 : Memref sig .tc .vmem S1x128x256 .bf16)
    (f1 : Cts Ideal c arg1) (f2 : Cts Ideal c arg2) (f3 : Cts Ideal c arg3) (f4 : Cts Ideal c arg4)
    (W : ℕ → ℕ → BitVec 8) (S A B : ℕ → ℕ → EReal) : Prop where
  w : ∀ (y : Fin 128) (d : Fin 5120), arg1.view.read (Elt Ideal) f1 (ix3 0 y d) = W y.val d.val
  s : ∀ (u : Fin 10) (r : Fin 16) (L : Fin 256),
    arg2.view.read (Elt Ideal) f2 (ix4 0 u r L) = S (4 * (L.val % 64) + r.val % 4) (4 * u.val + L.val / 64)
  a : ∀ (j : Fin 8) (d : Fin 5120), arg3.view.read (Elt Ideal) f3 (ix3 0 j d) = A j.val d.val
  b : ∀ (j : Fin 128) (L : Fin 256), arg4.view.read (Elt Ideal) f4 (ix3 0 j L)
    = (B (4 * (L.val % 64) + j.val / 32) (j.val % 8) * 2) * (if j.val % 32 / 8 = L.val / 64 then (1 : EReal) else 0)

variable {W : ℕ → ℕ → BitVec 8} {S A B : ℕ → ℕ → EReal}

/-- The unpacked codes of one half, from the two loads of packed bytes. -/
theorem codes_apply (u p : ℕ) (x y : Vec Ideal S1x128x128 .i8)
    (hx : ∀ a b : Fin 128, (x (ix3 0 a b) : BitVec 8) = W a.val (512 * u + 256 * p + b.val))
    (hy : ∀ a b : Fin 128, (y (ix3 0 a b) : BitVec 8) = W a.val (512 * u + 256 * p + 128 + b.val))
    (R : Fin 512) (l : Fin 128) (n d : ℕ) (hn : n = 4 * ((128 * p + l.val) % 64) + R.val % 4)
    (hd : d = 512 * u + 128 * ((128 * p + l.val) / 64) + R.val / 4) :
    k0_pay10 x y (ix2 R l) = nib (W (n / 2) d) (n % 2) := by
  refine BitVec.eq_of_getLsbD_eq fun q hq => ?_
  have hR := R.isLt
  have hl := l.isLt
  rw [codes_getLsbD x y R l q hq ⟨2 * (l.val % 64) + R.val % 4 / 2, by omega⟩ ⟨R.val / 4, by omega⟩ rfl rfl, nib_getLsbD _ _ _ hq, hx, hy]
  have e1 : 4 * (R.val % 2) + q = 4 * (n % 2) + q := by omega
  have e2 : 2 * (l.val % 64) + R.val % 4 / 2 = n / 2 := by omega
  simp only [e1, e2]
  split
  · rw [show 512 * u + 256 * p + R.val / 4 = d by omega]
  · rw [show 512 * u + 256 * p + 128 + R.val / 4 = d by omega]

variable {c : Dev nD}
    {arg1 : Memref sig .tc .vmem S1x128x5120 .i8} {arg2 : Memref sig .tc .vmem S1x10x16x256 .bf16}
    {arg3 : Memref sig .tc .vmem S1x8x5120 .bf16} {arg4 : Memref sig .tc .vmem S1x128x256 .bf16}
    {f1 : Cts Ideal c arg1} {f2 : Cts Ideal c arg2} {f3 : Cts Ideal c arg3} {f4 : Cts Ideal c arg4}

/-- One load of packed bytes, at an index. -/
theorem Ins.w_load (h : Ins c arg1 arg2 arg3 arg4 f1 f2 f3 f4 W S A B) (off : Fin 3 → ℕ) (inb) (o : ℕ) (ho : off = ![0, 0, o]) (a b : Fin 128) :
    (View.readAt (Elt Ideal) arg1.view (Rect.unit (s := S1x128x5120) off S1x128x128.size inb).toLoadRect f1 (ix3 0 a b) : BitVec 8) = W a.val (o + b.val) := by
  subst ho
  have hb : o + b.val < 5120 := by have := inb 2; simp at this; omega
  refine Eq.trans ?_ (h.w a ⟨o + b.val, hb⟩)
  show arg1.view.read (Elt Ideal) f1 _ = _
  congr 1
  funext i
  refine Fin.ext ?_
  match i with
  | ⟨0, _⟩ => rfl
  | ⟨1, _⟩ => show 0 + 1 * a.val = a.val; omega
  | ⟨2, _⟩ => show o + 1 * b.val = o + b.val; omega

/-- One load of the factor, at an index. -/
theorem Ins.a_load (h : Ins c arg1 arg2 arg3 arg4 f1 f2 f3 f4 W S A B) (off : Fin 3 → ℕ) (inb) (o : ℕ) (ho : off = ![0, 0, o]) (a : Fin 8) (b : Fin 128) :
    (View.readAt (Elt Ideal) arg3.view (Rect.unit (s := S1x8x5120) off S1x8x128.size inb).toLoadRect f3 (ix3 0 a b) : EReal) = A a.val (o + b.val) := by
  subst ho
  have hb : o + b.val < 5120 := by have := inb 2; simp at this; omega
  refine Eq.trans ?_ (h.a a ⟨o + b.val, hb⟩)
  show arg3.view.read (Elt Ideal) f3 _ = _
  congr 1
  funext i
  refine Fin.ext ?_
  match i with
  | ⟨0, _⟩ => rfl
  | ⟨1, _⟩ => show 0 + 1 * a.val = a.val; omega
  | ⟨2, _⟩ => show o + 1 * b.val = o + b.val; omega

/-- The load of the spread factor, at an index. -/
theorem Ins.b_load (h : Ins c arg1 arg2 arg3 arg4 f1 f2 f3 f4 W S A B) (inb) (j : Fin 128) (L : Fin 256) :
    (View.readAt (Elt Ideal) arg4.view (Rect.unit (s := S1x128x256) ![0, 0, 0] S1x128x256.size inb).toLoadRect f4 (ix3 0 j L) : EReal)
      = (B (4 * (L.val % 64) + j.val / 32) (j.val % 8) * 2) * (if j.val % 32 / 8 = L.val / 64 then (1 : EReal) else 0) := by
  refine Eq.trans ?_ (h.b j L)
  show arg4.view.read (Elt Ideal) f4 _ = _
  congr 1
  funext i
  refine Fin.ext ?_
  match i with
  | ⟨0, _⟩ => rfl
  | ⟨1, _⟩ => show 0 + 1 * j.val = j.val; omega
  | ⟨2, _⟩ => show 0 + 1 * L.val = L.val; omega

/-- The loaded scales, at an index. -/
theorem Ins.s_load (h : Ins c arg1 arg2 arg3 arg4 f1 f2 f3 f4 W S A B) (off : Fin 4 → ℕ) (inb) (u : ℕ) (ho : off = ![0, u, 0, 0]) (r : Fin 16) (L : Fin 256) :
    (k0_pay15 (F := Ideal) (View.readAt (Elt Ideal) arg2.view (Rect.unit (s := S1x10x16x256) off S1x1x16x256.size inb).toLoadRect f2) (ix2 r L) : EReal)
      = S (4 * (L.val % 64) + r.val % 4) (4 * u + L.val / 64) := by
  subst ho
  have hu : u < 10 := by have := inb 1; simp at this; omega
  refine Eq.trans ?_ (h.s ⟨u, hu⟩ r L)
  unfold k0_pay15
  refine (shapeCast_apply _ _ (ix2 r L) (ix4 0 0 r L) (by simp [Shape.rowMajor_val_two, Shape.rowMajor_val_four, ix2, ix4])).trans ?_
  show arg2.view.read (Elt Ideal) f2 _ = _
  congr 1
  funext i
  refine Fin.ext ?_
  match i with
  | ⟨0, _⟩ => rfl
  | ⟨1, _⟩ => rfl
  | ⟨2, _⟩ => show 0 + 1 * r.val = r.val; omega
  | ⟨3, _⟩ => show 0 + 1 * L.val = L.val; omega

/-- The factor's four column quarters, transposed: column `kc`, lane `j` is row `j % 8` of the quarter `j % 32 / 8`. -/
theorem k0_pay4_apply (u : ℕ) (x0 x1 x2 x3 : Vec Ideal S1x8x128 .bf16)
    (h0 : ∀ (a : Fin 8) (b : Fin 128), (x0 (ix3 0 a b) : EReal) = A a.val (512 * u + b.val))
    (h1 : ∀ (a : Fin 8) (b : Fin 128), (x1 (ix3 0 a b) : EReal) = A a.val (512 * u + 128 + b.val))
    (h2 : ∀ (a : Fin 8) (b : Fin 128), (x2 (ix3 0 a b) : EReal) = A a.val (512 * u + 256 + b.val))
    (h3 : ∀ (a : Fin 8) (b : Fin 128), (x3 (ix3 0 a b) : EReal) = A a.val (512 * u + 384 + b.val))
    (kc j : Fin 128) :
    k0_pay4 x0 x1 x2 x3 (ix2 kc j) = A (j.val % 8) (512 * u + 128 * (j.val % 32 / 8) + kc.val) := by
  pointwise [k0_pay4]
  have hj := j.isLt
  simp only [h0, h1, h2, h3]
  split_ifs <;> exact congrArg₂ A (by omega) (by omega)

/-- Two equal halves interleaved by rows: either row is the half. -/
theorem inter_apply (lo hi : FVec Ideal S128x128 .bf16) (h1 h2 h3) (ρ : Fin 128) (h : Fin 2) (j : Fin 128) (e : hi (ix2 ρ j) = lo (ix2 ρ j)) :
    interleaveRows S128x2x128 (shapeCast S128x1x128 lo h1) (shapeCast S128x1x128 hi h2) h3 (ix3 ρ h j) = lo (ix2 ρ j) := by
  pointwise
  split_ifs
  · rfl
  · exact e

end Cert.Proof.Val

end
-- ==== Proof.Val.Fac.lean ====
/-
  The low-rank factor's scratch buffer in one trip (untrusted, hand-written): what it holds, and the low-rank delta of each
  block of sixty-four rows.
-/
module

public import proofs.«01_k».proof.Proof.Val.Ins
public import Idealize.ShloMosaic.Lib.Pipeline.ReadBack

@[expose] public section

set_option maxRecDepth 16384

noncomputable section

namespace Cert.Proof.Val

open Cert.KernelIdeal Cert.KernelIdeal.Gen
open Idealize.ShloMosaic Idealize.ShloMosaic.TcCoe
open Cert.Proof.PI (Cts)

variable {W : ℕ → ℕ → BitVec 8} {S A B : ℕ → ℕ → EReal}

variable {c : Dev nD}
    {arg1 : Memref sig .tc .vmem S1x128x5120 .i8} {arg2 : Memref sig .tc .vmem S1x10x16x256 .bf16}
    {arg3 : Memref sig .tc .vmem S1x8x5120 .bf16} {arg4 : Memref sig .tc .vmem S1x128x256 .bf16}
    {f1 : Cts Ideal c arg1} {f2 : Cts Ideal c arg2} {f3 : Cts Ideal c arg3} {f4 : Cts Ideal c arg4}

/-- The scratch buffer's contents after the trip's two strided stores: rows `2 κ` and `2 κ + 1` hold column `κ`. -/
def G7 (A : ℕ → ℕ → EReal) (u : ℕ) (y : S256x2x128.Idx) : EReal := A ((y 2).val % 8) (512 * u + 128 * ((y 2).val % 32 / 8) + (y 0).val / 2)

theorem Ins.pay4 (h : Ins c arg1 arg2 arg3 arg4 f1 f2 f3 f4 W S A B) (k : Fin k0_t1_loop.trips) (i0 i1 i2 i3) (kc j : Fin 128) :
    k0_pay4 (F := Ideal) (View.readAt (Elt Ideal) arg3.view (Rect.unit (s := S1x8x5120) (k0_off1 k 0#32) S1x8x128.size i0).toLoadRect f3)
      (View.readAt (Elt Ideal) arg3.view (Rect.unit (s := S1x8x5120) (k0_off1 k 128#32) S1x8x128.size i1).toLoadRect f3)
      (View.readAt (Elt Ideal) arg3.view (Rect.unit (s := S1x8x5120) (k0_off1 k 256#32) S1x8x128.size i2).toLoadRect f3)
      (View.readAt (Elt Ideal) arg3.view (Rect.unit (s := S1x8x5120) (k0_off1 k 384#32) S1x8x128.size i3).toLoadRect f3) (ix2 kc j)
      = A (j.val % 8) (512 * k.val + 128 * (j.val % 32 / 8) + kc.val) :=
  k0_pay4_apply k.val _ _ _ _ (fun a b => h.a_load _ _ _ (off1_0 k) a b) (fun a b => h.a_load _ _ _ (off1_1 k) a b)
    (fun a b => h.a_load _ _ _ (off1_2 k) a b) (fun a b => h.a_load _ _ _ (off1_3 k) a b) kc j

theorem H7_pieces (h : Ins c arg1 arg2 arg3 arg4 f1 f2 f3 f4 W S A B) (k : Fin k0_t1_loop.trips) :
    View.PiecesOf (G7 A k.val) (Cert.Proof.PI.trip.sl.H7_2 (F := Ideal) c arg3 k f3) := by
  refine ⟨fun x => ?_, fun x => ?_, trivial⟩
  all_goals
    rw [← ix3_eta x]
    generalize x 0 = ρ, x 1 = hh, x 2 = j
    refine (inter_apply _ _ _ _ bitcasts_S128x2x128_w16_S128x1x128_w32 ρ hh j rfl).trans ?_
    refine (h.pay4 k _ _ _ _ ρ j).trans ?_
    unfold G7
    refine congrArg₂ A ?_ ?_
    · show j.val % 8 = (0 + 1 * j.val) % 8
      omega
    · first
      | show 512 * k.val + 128 * (j.val % 32 / 8) + ρ.val = 512 * k.val + 128 * ((0 + 1 * j.val) % 32 / 8) + (1 + 2 * ρ.val) / 2
        omega
      | show 512 * k.val + 128 * (j.val % 32 / 8) + ρ.val = 512 * k.val + 128 * ((0 + 1 * j.val) % 32 / 8) + (0 + 2 * ρ.val) / 2
        omega

theorem H7_cover (k : Fin k0_t1_loop.trips) (y : S256x2x128.Idx) :
    ∃ p ∈ Cert.Proof.PI.trip.sl.H7_2 (F := Ideal) c arg3 k f3, y ∈ p.1.set := by
  have h0 : (y 0).val < 256 := (y 0).isLt
  have h1 : (y 1).val < 2 := (y 1).isLt
  have h2 : (y 2).val < 128 := (y 2).isLt
  rcases Nat.mod_two_eq_zero_or_one (y 0).val with e | e
  · refine ⟨_, List.mem_cons_of_mem _ List.mem_cons_self, (LoadRect.mem_set _).mpr fun a => ?_⟩
    match a with
    | ⟨0, _⟩ => exact ⟨(y 0).val / 2, show (y 0).val / 2 < 128 by omega, show (y 0).val = 0 + 2 * ((y 0).val / 2) by omega⟩
    | ⟨1, _⟩ => exact ⟨(y 1).val, h1, show (y 1).val = 0 + 1 * (y 1).val by omega⟩
    | ⟨2, _⟩ => exact ⟨(y 2).val, h2, show (y 2).val = 0 + 1 * (y 2).val by omega⟩
  · refine ⟨_, List.mem_cons_self, (LoadRect.mem_set _).mpr fun a => ?_⟩
    match a with
    | ⟨0, _⟩ => exact ⟨(y 0).val / 2, show (y 0).val / 2 < 128 by omega, show (y 0).val = 1 + 2 * ((y 0).val / 2) by omega⟩
    | ⟨1, _⟩ => exact ⟨(y 1).val, h1, show (y 1).val = 0 + 1 * (y 1).val by omega⟩
    | ⟨2, _⟩ => exact ⟨(y 2).val, h2, show (y 2).val = 0 + 1 * (y 2).val by omega⟩

variable {arg7 : Memref sig .tc .vmem S256x2x128 .bf16} {f7 : Cts Ideal c arg7}

/-- A load of thirty-two pairs of rows of the scratch buffer. -/
theorem Ins.f_load (h : Ins c arg1 arg2 arg3 arg4 f1 f2 f3 f4 W S A B) (k : Fin k0_t1_loop.trips) (o : ℕ) (inb) (κ : Fin 32) (hh : Fin 2) (j : Fin 128) :
    (View.readAt (Elt Ideal) arg7.view (Rect.unit (s := S256x2x128) ![o, 0, 0] S32x2x128.size inb).toLoadRect
      (arg7.view.writes (Elt Ideal) f7 (Cert.Proof.PI.trip.sl.H7_2 (F := Ideal) c arg3 k f3)) (ix3 κ hh j) : EReal)
      = A (j.val % 8) (512 * k.val + 128 * (j.val % 32 / 8) + (o + κ.val) / 2) := by
  refine ((View.read_writes_apply_eq_canon _ _ _ _ (H7_cover k _)).trans
    (View.canon_apply_of_pieces (G7 A k.val) _ (H7_pieces h k).mem _ (H7_cover k _))).trans ?_
  unfold G7
  refine congrArg₂ A ?_ ?_
  · show (0 + 1 * j.val) % 8 = j.val % 8
    omega
  · show 512 * k.val + 128 * ((0 + 1 * j.val) % 32 / 8) + (o + 1 * κ.val) / 2 = _
    omega

/-- The low-rank delta of the sixty-four rows from `64 i`. -/
theorem Ins.delta (h : Ins c arg1 arg2 arg3 arg4 f1 f2 f3 f4 W S A B) (k : Fin k0_t1_loop.trips) (i o : ℕ) (ho : o = 32 * i) (inb) (inb4) (r : Fin 64) (L : Fin 256)
    (n d : ℕ) (hn : n = 4 * (L.val % 64) + r.val % 4) (hd : d = 512 * k.val + 128 * (L.val / 64) + (64 * i + r.val) / 4) :
    k0_pay40 (F := Ideal) (k0_pay1 k0_pay153 k0_pay154 k0_pay155)
      (View.readAt (Elt Ideal) arg7.view (Rect.unit (s := S256x2x128) ![o, 0, 0] S32x2x128.size inb).toLoadRect
        (arg7.view.writes (Elt Ideal) f7 (Cert.Proof.PI.trip.sl.H7_2 (F := Ideal) c arg3 k f3)))
      (View.readAt (Elt Ideal) arg4.view (Rect.unit (s := S1x128x256) ![0, 0, 0] S1x128x256.size inb4).toLoadRect f4) (ix2 r L)
      = 2 * ∑ ρ : Fin 8, B n ρ.val * A ρ.val d := by
  have hr := r.isLt
  rw [hd]
  refine delta_apply _ _ _ r L mask_eq (fun ρ t => A ρ (512 * k.val + 128 * t + (64 * i + r.val) / 4)) (fun ρ => B n ρ)
    ⟨r.val / 2, by omega⟩ rfl ⟨r.val % 2, by omega⟩ rfl (fun j => ?_) (fun j hj => ?_)
  · refine (h.f_load k o inb _ _ j).trans (congrArg (A _) ?_)
    show 512 * k.val + 128 * (j.val % 32 / 8) + (o + r.val / 2) / 2 = _
    omega
  · rw [h.b_load, hj, hn]

end Cert.Proof.Val

end
-- ==== Proof.Val.Weights.lean ====
/-
  The effective weights of one trip (untrusted, hand-written): every tile stored into the weight scratch buffer holds them, and
  the running maxima bound them.
-/
module

public import proofs.«01_k».proof.Proof.Val.Fac

@[expose] public section

set_option maxRecDepth 16384

noncomputable section

namespace Cert.Proof.Val

open Cert.KernelIdeal Cert.KernelIdeal.Gen
open Idealize.ShloMosaic Idealize.ShloMosaic.TcCoe
open Cert.Proof.PI (Cts)
open Cert.Proof.PI.trip.sl

variable {W : ℕ → ℕ → BitVec 8} {S A B : ℕ → ℕ → EReal}

variable {c : Dev nD}
    {arg1 : Memref sig .tc .vmem S1x128x5120 .i8} {arg2 : Memref sig .tc .vmem S1x10x16x256 .bf16}
    {arg3 : Memref sig .tc .vmem S1x8x5120 .bf16} {arg4 : Memref sig .tc .vmem S1x128x256 .bf16}
    {f1 : Cts Ideal c arg1} {f2 : Cts Ideal c arg2} {f3 : Cts Ideal c arg3} {f4 : Cts Ideal c arg4}
    {arg7 : Memref sig .tc .vmem S256x2x128 .bf16} {f7 : Cts Ideal c arg7}

/-- The effective weight at row `R`, lane `L` of trip `u`'s tile. -/
def mgL (W : ℕ → ℕ → BitVec 8) (S A B : ℕ → ℕ → EReal) (u R L : ℕ) : EReal :=
  mg W S A B (4 * (L % 64) + R % 4) (512 * u + 128 * (L / 64) + R / 4)

/-- The weight scratch buffer's contents after the trip's sixteen stores. -/
def G8 (W : ℕ → ℕ → BitVec 8) (S A B : ℕ → ℕ → EReal) (u : ℕ) (y : S512x256.Idx) : EReal := mgL W S A B u (y 0).val (y 1).val

/-- What the codes of half `p` are. -/
def IsCodes (W : ℕ → ℕ → BitVec 8) (u p : ℕ) (cs : IVec S512x128 4) : Prop := ∀ (R : Fin 512) (l : Fin 128),
  cs (ix2 R l) = nib (W ((4 * ((128 * p + l.val) % 64) + R.val % 4) / 2) (512 * u + 128 * ((128 * p + l.val) / 64) + R.val / 4))
    ((4 * ((128 * p + l.val) % 64) + R.val % 4) % 2)

/-- What the loaded scales are. -/
def IsScales (S : ℕ → ℕ → EReal) (u : ℕ) (ss : FVec Ideal S16x256 .bf16) : Prop := ∀ (r : Fin 16) (L : Fin 256),
  (ss (ix2 r L) : EReal) = S (4 * (L.val % 64) + r.val % 4) (4 * u + L.val / 64)

/-- What the low-rank delta of block `i` is. -/
def IsDelta (A B : ℕ → ℕ → EReal) (u i : ℕ) (D : FVec Ideal S64x256 .f32) : Prop := ∀ (r : Fin 64) (L : Fin 256),
  (D (ix2 r L) : EReal) = 2 * ∑ ρ : Fin 8, B (4 * (L.val % 64) + r.val % 4) ρ.val * A ρ.val (512 * u + 128 * (L.val / 64) + (64 * i + r.val) / 4)

/-- A tile of the codes, the scales and the delta holds the effective weights. -/
theorem tile_eq (u i p : ℕ) (hi : i < 8) (hp : p < 2) {o1 o2 : ℕ} (e1 : o1 = 64 * i) (e2 : o2 = 128 * p) {h1 h2 h3} {cs ss D}
    (hcs : IsCodes W u p cs) (hss : IsScales S u ss) (hD : IsDelta A B u i D) (r : Fin 64) (l : Fin 128) :
    tileM o1 o2 h1 h2 h3 cs ss D (ix2 r l) = mgL W S A B u (64 * i + r.val) (128 * p + l.val) := by
  have hr := r.isLt
  have hl := l.isLt
  rw [tileM_apply o1 o2 h1 h2 h3 cs ss D r l ⟨64 * i + r.val, by omega⟩ ⟨r.val % 16, by omega⟩ ⟨128 * p + l.val, by omega⟩
    (by simp only [e1]) rfl (by simp only [e2]), hcs, hss, hD]
  unfold mgL mg
  have a1 : r.val % 16 % 4 = (64 * i + r.val) % 4 := by omega
  have a2 : r.val % 4 = (64 * i + r.val) % 4 := by omega
  have a3 : (512 * u + 128 * ((128 * p + l.val) / 64) + (64 * i + r.val) / 4) / 128 = 4 * u + (128 * p + l.val) / 64 := by omega
  simp only [a1, a2, a3]

/-- A stored tile is a block of the scratch buffer's contents. -/
theorem tile_piece (u i p : ℕ) (hi : i < 8) (hp : p < 2) {o1 o2 : ℕ} (e1 : o1 = 64 * i) (e2 : o2 = 128 * p) {h1 h2 h3} {cs ss D}
    (hcs : IsCodes W u p cs) (hss : IsScales S u ss) (hD : IsDelta A B u i D) {w : FVec Ideal S64x128 .f32} (hw : w = tileM o1 o2 h1 h2 h3 cs ss D)
    (inb : ∀ a, (![o1, o2] : Fin 2 → ℕ) a + S64x128.size a ≤ S512x256.size a) (x : S64x128.Idx) :
    (w x : EReal) = G8 W S A B u ((Rect.unit (s := S512x256) ![o1, o2] S64x128.size inb).emb x) := by
  obtain ⟨r, l, rfl⟩ : ∃ (r : Fin 64) (l : Fin 128), x = ix2 r l := ⟨x 0, x 1, eq_ix2 x⟩
  rw [hw, tile_eq u i p hi hp e1 e2 hcs hss hD r l]
  unfold G8
  refine congrArg₂ (mgL W S A B u) ?_ ?_
  · show 64 * i + r.val = o1 + 1 * r.val
    omega
  · show 128 * p + l.val = o2 + 1 * l.val
    omega

theorem Ins.cs0 (h : Ins c arg1 arg2 arg3 arg4 f1 f2 f3 f4 W S A B) (k : Fin k0_t1_loop.trips) : IsCodes W k.val 0 (v119 (F := Ideal) c arg1 k f1) :=
  fun R l => codes_apply k.val 0 _ _ (fun a b => h.w_load _ _ _ (off2_0 k) a b) (fun a b => h.w_load _ _ _ (off2_1 k) a b) R l _ _ rfl rfl

theorem Ins.cs1 (h : Ins c arg1 arg2 arg3 arg4 f1 f2 f3 f4 W S A B) (k : Fin k0_t1_loop.trips) : IsCodes W k.val 1 (r_2 (F := Ideal) c arg1 k f1) :=
  fun R l => codes_apply k.val 1 _ _ (fun a b => h.w_load _ _ _ (off2_2 k) a b) (fun a b => h.w_load _ _ _ (off2_3 k) a b) R l _ _ rfl rfl

theorem Ins.ss (h : Ins c arg1 arg2 arg3 arg4 f1 f2 f3 f4 W S A B) (k : Fin k0_t1_loop.trips) : IsScales S k.val (r_3 (F := Ideal) c arg2 k f2) :=
  fun r L => h.s_load _ _ _ (off3_eq k) r L

theorem Ins.dl0 (h : Ins c arg1 arg2 arg3 arg4 f1 f2 f3 f4 W S A B) (k : Fin k0_t1_loop.trips) (inb inb4) : IsDelta A B k.val 0 (k0_pay40 (F := Ideal) (k0_pay1 k0_pay153 k0_pay154 k0_pay155)
      (View.readAt (Elt Ideal) arg7.view (Rect.unit (s := S256x2x128) ![0, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 0 0 rfl inb inb4 r L _ _ rfl rfl

theorem Ins.dl1 (h : Ins c arg1 arg2 arg3 arg4 f1 f2 f3 f4 W S A B) (k : Fin k0_t1_loop.trips) (inb inb4) : IsDelta A B k.val 1 (k0_pay40 (F := Ideal) (k0_pay1 k0_pay153 k0_pay154 k0_pay155)
      (View.readAt (Elt Ideal) arg7.view (Rect.unit (s := S256x2x128) ![32, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 1 32 rfl inb inb4 r L _ _ rfl rfl

theorem Ins.dl2 (h : Ins c arg1 arg2 arg3 arg4 f1 f2 f3 f4 W S A B) (k : Fin k0_t1_loop.trips) (inb inb4) : IsDelta A B k.val 2 (k0_pay40 (F := Ideal) (k0_pay1 k0_pay153 k0_pay154 k0_pay155)
      (View.readAt (Elt Ideal) arg7.view (Rect.unit (s := S256x2x128) ![64, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 2 64 rfl inb inb4 r L _ _ rfl rfl

theorem Ins.dl3 (h : Ins c arg1 arg2 arg3 arg4 f1 f2 f3 f4 W S A B) (k : Fin k0_t1_loop.trips) (inb inb4) : IsDelta A B k.val 3 (k0_pay40 (F := Ideal) (k0_pay1 k0_pay153 k0_pay154 k0_pay155)
      (View.readAt (Elt Ideal) arg7.view (Rect.unit (s := S256x2x128) ![96, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 3 96 rfl inb inb4 r L _ _ rfl rfl

theorem Ins.dl4 (h : Ins c arg1 arg2 arg3 arg4 f1 f2 f3 f4 W S A B) (k : Fin k0_t1_loop.trips) (inb inb4) : IsDelta A B k.val 4 (k0_pay40 (F := Ideal) (k0_pay1 k0_pay153 k0_pay154 k0_pay155)
      (View.readAt (Elt Ideal) arg7.view (Rect.unit (s := S256x2x128) ![128, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 4 128 rfl inb inb4 r L _ _ rfl rfl

theorem Ins.dl5 (h : Ins c arg1 arg2 arg3 arg4 f1 f2 f3 f4 W S A B) (k : Fin k0_t1_loop.trips) (inb inb4) : IsDelta A B k.val 5 (k0_pay40 (F := Ideal) (k0_pay1 k0_pay153 k0_pay154 k0_pay155)
      (View.readAt (Elt Ideal) arg7.view (Rect.unit (s := S256x2x128) ![160, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 5 160 rfl inb inb4 r L _ _ rfl rfl

theorem Ins.dl6 (h : Ins c arg1 arg2 arg3 arg4 f1 f2 f3 f4 W S A B) (k : Fin k0_t1_loop.trips) (inb inb4) : IsDelta A B k.val 6 (k0_pay40 (F := Ideal) (k0_pay1 k0_pay153 k0_pay154 k0_pay155)
      (View.readAt (Elt Ideal) arg7.view (Rect.unit (s := S256x2x128) ![192, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 6 192 rfl inb inb4 r L _ _ rfl rfl

theorem Ins.dl7 (h : Ins c arg1 arg2 arg3 arg4 f1 f2 f3 f4 W S A B) (k : Fin k0_t1_loop.trips) (inb inb4) : IsDelta A B k.val 7 (k0_pay40 (F := Ideal) (k0_pay1 k0_pay153 k0_pay154 k0_pay155)
      (View.readAt (Elt Ideal) arg7.view (Rect.unit (s := S256x2x128) ![224, 0, 0] S32x2x128.size inb).toLoadRect
        (arg7.view.writes (Elt Ideal) f7 (H7_2 (F := Ideal) c arg3 k f3)))
      (View.readAt (Elt Ideal) arg4.view (Rect.unit (s := S1x128x256) ![0, 0, 0] S1x128x256.size inb4).toLoadRect f4)) :=
  fun r L => h.delta k 7 224 rfl inb inb4 r L _ _ rfl rfl

theorem Ins.r_8 (h : Ins c arg1 arg2 arg3 arg4 f1 f2 f3 f4 W S A B) (k : Fin k0_t1_loop.trips) : IsDelta A B k.val 0 (r_8 (F := Ideal) c arg3 arg4 arg7 k0_pay153 k0_pay154 k0_pay155 k f3 f4 f7) :=
  fun r L => (congrFun (d0 _ _ _) _).trans (h.dl0 k _ _ r L)

theorem Ins.r_25 (h : Ins c arg1 arg2 arg3 arg4 f1 f2 f3 f4 W S A B) (k : Fin k0_t1_loop.trips) : IsDelta A B k.val 3 (r_25 (F := Ideal) c arg3 arg4 arg7 k0_pay153 k0_pay154 k0_pay155 k f3 f4 f7) :=
  fun r L => (congrFun (d3 _ _ _) _).trans (h.dl3 k _ _ r L)

theorem Ins.r_34 (h : Ins c arg1 arg2 arg3 arg4 f1 f2 f3 f4 W S A B) (k : Fin k0_t1_loop.trips) : IsDelta A B k.val 4 (r_34 (F := Ideal) c arg3 arg4 arg7 k0_pay153 k0_pay154 k0_pay155 k f3 f4 f7) :=
  fun r L => (congrFun (d4 _ _ _) _).trans (h.dl4 k _ _ r L)

theorem Ins.r_45 (h : Ins c arg1 arg2 arg3 arg4 f1 f2 f3 f4 W S A B) (k : Fin k0_t1_loop.trips) : IsDelta A B k.val 6 (r_45 (F := Ideal) c arg3 arg4 arg7 k0_pay153 k0_pay154 k0_pay155 k f3 f4 f7) :=
  fun r L => (congrFun (d6 _ _ _) _).trans (h.dl6 k _ _ r L)

theorem Ins.r_51 (h : Ins c arg1 arg2 arg3 arg4 f1 f2 f3 f4 W S A B) (k : Fin k0_t1_loop.trips) : IsDelta A B k.val 7 (r_51 (F := Ideal) c arg3 arg4 arg7 k0_pay153 k0_pay154 k0_pay155 k f3 f4 f7) :=
  fun r L => (congrFun (d7 _ _ _) _).trans (h.dl7 k _ _ r L)

theorem Ins.r_19 (h : Ins c arg1 arg2 arg3 arg4 f1 f2 f3 f4 W S A B) (k : Fin k0_t1_loop.trips) : IsDelta A B k.val 2 (r_19 (F := Ideal) c arg3 arg4 arg7 k0_pay153 k0_pay154 k0_pay155 k f3 f4 f7) :=
  fun r L => (rfl).trans (h.dl2 k _ _ r L)

/-- Every store into the weight scratch buffer is a block of the effective weights. -/
theorem H8_pieces (h : Ins c arg1 arg2 arg3 arg4 f1 f2 f3 f4 W S A B) (k : Fin k0_t1_loop.trips) :
    View.PiecesOf (G8 W S A B k.val) (H8_16 (F := Ideal) c arg1 arg2 arg3 arg4 arg7 k0_pay153 k0_pay154 k0_pay155 k f1 f2 f3 f4 f7) :=
  ⟨fun x => tile_piece (o1 := 448) (o2 := 128) k.val 7 1 (by decide) (by decide) rfl rfl (h.cs1 k) (h.ss k) (h.r_51 k) (t71 _ _ _) inb_S512x256_S64x128_448_128 x,
    fun x => tile_piece (o1 := 448) (o2 := 0) k.val 7 0 (by decide) (by decide) rfl rfl (h.cs0 k) (h.ss k) (h.dl7 k _ _) (t70 _ _ _ _ _) inb_S512x256_S64x128_448_0 x,
    fun x => tile_piece (o1 := 384) (o2 := 128) k.val 6 1 (by decide) (by decide) rfl rfl (h.cs1 k) (h.ss k) (h.r_45 k) (t61 _ _ _) inb_S512x256_S64x128_384_128 x,
    fun x => tile_piece (o1 := 384) (o2 := 0) k.val 6 0 (by decide) (by decide) rfl rfl (h.cs0 k) (h.ss k) (h.dl6 k _ _) (t60 _ _ _ _ _) inb_S512x256_S64x128_384_0 x,
    fun x => tile_piece (o1 := 320) (o2 := 128) k.val 5 1 (by decide) (by decide) rfl rfl (h.cs1 k) (h.ss k) (h.dl5 k _ _) (t51 _ _ _ _ _) inb_S512x256_S64x128_320_128 x,
    fun x => tile_piece (o1 := 320) (o2 := 0) k.val 5 0 (by decide) (by decide) rfl rfl (h.cs0 k) (h.ss k) (h.dl5 k _ _) (t50 _ _ _ _ _) inb_S512x256_S64x128_320_0 x,
    fun x => tile_piece (o1 := 256) (o2 := 128) k.val 4 1 (by decide) (by decide) rfl rfl (h.cs1 k) (h.ss k) (h.r_34 k) (t41 _ _ _) inb_S512x256_S64x128_256_128 x,
    fun x => tile_piece (o1 := 256) (o2 := 0) k.val 4 0 (by decide) (by decide) rfl rfl (h.cs0 k) (h.ss k) (h.dl4 k _ _) (t40 _ _ _ _ _) inb_S512x256_S64x128_256_0 x,
    fun x => tile_piece (o1 := 192) (o2 := 128) k.val 3 1 (by decide) (by decide) rfl rfl (h.cs1 k) (h.ss k) (h.r_25 k) (t31 _ _ _) inb_S512x256_S64x128_192_128 x,
    fun x => tile_piece (o1 := 192) (o2 := 0) k.val 3 0 (by decide) (by decide) rfl rfl (h.cs0 k) (h.ss k) (h.dl3 k _ _) (t30 _ _ _ _ _) inb_S512x256_S64x128_192_0 x,
    fun x => tile_piece (o1 := 128) (o2 := 128) k.val 2 1 (by decide) (by decide) rfl rfl (h.cs1 k) (h.ss k) (h.r_19 k) (t21 _ _ _) inb_S512x256_S64x128_128_128 x,
    fun x => tile_piece (o1 := 128) (o2 := 0) k.val 2 0 (by decide) (by decide) rfl rfl (h.cs0 k) (h.ss k) (h.dl2 k _ _) (t20 _ _ _ _ _) inb_S512x256_S64x128_128_0 x,
    fun x => tile_piece (o1 := 64) (o2 := 128) k.val 1 1 (by decide) (by decide) rfl rfl (h.cs1 k) (h.ss k) (h.dl1 k _ _) (t11 _ _ _ _ _) inb_S512x256_S64x128_64_128 x,
    fun x => tile_piece (o1 := 64) (o2 := 0) k.val 1 0 (by decide) (by decide) rfl rfl (h.cs0 k) (h.ss k) (h.dl1 k _ _) (t10 _ _ _ _ _) inb_S512x256_S64x128_64_0 x,
    fun x => tile_piece (o1 := 0) (o2 := 128) k.val 0 1 (by decide) (by decide) rfl rfl (h.cs1 k) (h.ss k) (h.r_8 k) (t01 _ _ _) inb_S512x256_S64x128_0_128 x,
    fun x => tile_piece (o1 := 0) (o2 := 0) k.val 0 0 (by decide) (by decide) rfl rfl (h.cs0 k) (h.ss k) (h.dl0 k _ _) (t00 _ _ _ _ _) inb_S512x256_S64x128_0_0 x, trivial⟩

end Cert.Proof.Val

end
-- ==== Proof.Val.Scales.lean ====
/-
  The scales of one trip (untrusted, hand-written): the running maxima over the eight tiles of each half, and the scale made of
  them.
-/
module

public import proofs.«01_k».proof.Proof.Val.Weights

@[expose] public section

set_option maxRecDepth 16384

noncomputable section

namespace Cert.Proof.Val

open Cert.KernelIdeal Cert.KernelIdeal.Gen
open Idealize.ShloMosaic Idealize.ShloMosaic.TcCoe
open Cert.Proof.PI (Cts)
open Cert.Proof.PI.trip.sl

variable {W : ℕ → ℕ → BitVec 8} {S A B : ℕ → ℕ → EReal}

variable {c : Dev nD}
    {arg1 : Memref sig .tc .vmem S1x128x5120 .i8} {arg2 : Memref sig .tc .vmem S1x10x16x256 .bf16}
    {arg3 : Memref sig .tc .vmem S1x8x5120 .bf16} {arg4 : Memref sig .tc .vmem S1x128x256 .bf16}
    {f1 : Cts Ideal c arg1} {f2 : Cts Ideal c arg2} {f3 : Cts Ideal c arg3} {f4 : Cts Ideal c arg4}
    {arg7 : Memref sig .tc .vmem S256x2x128 .bf16} {f7 : Cts Ideal c arg7}

/-- The running maxima of half `p` after `i` tiles: lane by lane, the least bound of zero and of the absolute weights of the
    rows so far in the residue class. -/
def UB (W : ℕ → ℕ → BitVec 8) (S A B : ℕ → ℕ → EReal) (u p i : ℕ) (v : FVec Ideal S8x128 .f32) : Prop :=
  ∀ (r : Fin 8) (l : Fin 128) (y : EReal), (v (ix2 r l) : EReal) ≤ y ↔
    0 ≤ y ∧ ∀ R : ℕ, R < 64 * i → R % 8 = r.val → eabs (mgL W S A B u R (128 * p + l.val)) ≤ y

theorem UB_zero (u p : ℕ) (v : FVec Ideal S8x128 .f32) (hv : ∀ r l, (v (ix2 r l) : EReal) = 0) : UB W S A B u p 0 v := fun r l y => by
  rw [hv]
  exact ⟨fun h => ⟨h, fun R hR => absurd hR (by omega)⟩, fun h => h.1⟩

theorem zero13 (r : Fin 8) (l : Fin 128) : (k0_pay13 (F := Ideal) (ix2 r l) : EReal) = 0 := by
  show Ideal.ofBits .f32 0x00000000#32 = 0
  simp [Ideal.ofBits, Ideal.ieee]

theorem zero14 (r : Fin 8) (l : Fin 128) : (k0_pay14 (F := Ideal) (ix2 r l) : EReal) = 0 := by
  show Ideal.ofBits .f32 0x00000000#32 = 0
  simp [Ideal.ofBits, Ideal.ieee]

/-- One more tile. -/
theorem UB_step (u i p : ℕ) (hi : i < 8) (hp : p < 2) {o1 o2 : ℕ} (e1 : o1 = 64 * i) (e2 : o2 = 128 * p) {h1 h2 h3} {cs ss D}
    (hcs : IsCodes W u p cs) (hss : IsScales S u ss) (hD : IsDelta A B u i D) {a v : FVec Ideal S8x128 .f32} (ha : UB W S A B u p i a)
    (hv : v = k0_pay43 a (tileM o1 o2 h1 h2 h3 cs ss D)) : UB W S A B u p (i + 1) v := fun r l y => by
  have hr := r.isLt
  rw [hv, step_le, ha r l y]
  constructor
  · rintro ⟨⟨h0, hR⟩, hc⟩
    refine ⟨h0, fun R hlt hm => ?_⟩
    rcases Nat.lt_or_ge R (64 * i) with hl | hg
    · exact hR R hl hm
    · have := hc ⟨(R - 64 * i) / 8, by omega⟩
      rw [tile_eq u i p hi hp e1 e2 hcs hss hD] at this
      have e : 64 * i + (8 * ((R - 64 * i) / 8) + r.val) = R := by omega
      simp only [e] at this
      exact this
  · rintro ⟨h0, hR⟩
    refine ⟨⟨h0, fun R hl hm => hR R (by omega) hm⟩, fun c => ?_⟩
    have hc := c.isLt
    rw [tile_eq u i p hi hp e1 e2 hcs hss hD]
    exact hR _ (show 64 * i + (8 * c.val + r.val) < 64 * (i + 1) by omega) (show (64 * i + (8 * c.val + r.val)) % 8 = r.val by omega)

/-- The scale made of the maxima of the eight tiles. -/
theorem scale_of_UB (u p : ℕ) (hp : p < 2) {v : FVec Ideal S8x128 .f32} (hv : UB W S A B u p 8 v) (r : Fin 8) (l : Fin 128) :
    scv v (ix2 r l) = sc W S A B (4 * ((128 * p + l.val) % 64) + r.val % 4) (4 * u + (128 * p + l.val) / 64) := by
  have hr := r.isLt
  have hl := l.isLt
  rw [scv_apply]
  unfold sc
  congr 1
  refine eq_of_forall_ge_iff fun y => ?_
  rw [max_le_iff, hv r l y, hv _ l y]
  unfold am
  rw [iSup_le_iff]
  have key : ∀ R L : ℕ, R < 512 → R % 4 = r.val % 4 → L = 128 * p + l.val →
      mgL W S A B u R L = mg W S A B (4 * (L % 64) + r.val % 4) (128 * (4 * u + L / 64) + R / 4) := fun R L _ hm _ => by
    unfold mgL
    rw [hm, show 512 * u + 128 * (L / 64) + R / 4 = 128 * (4 * u + L / 64) + R / 4 by omega]
  constructor
  · rintro ⟨⟨_, h1⟩, ⟨_, h2⟩⟩ κ
    have hκ := κ.isLt
    have e := key (4 * κ.val + r.val % 4) (128 * p + l.val) (by omega) (by omega) rfl
    rw [show (4 * κ.val + r.val % 4) / 4 = κ.val by omega] at e
    rw [← e]
    by_cases hm : (4 * κ.val + r.val % 4) % 8 = r.val
    · exact h1 _ (by omega) hm
    · exact h2 _ (by omega) (show (4 * κ.val + r.val % 4) % 8 = (r.val + 4) % 8 by omega)
  · intro h
    have h0 : 0 ≤ y := (eabs_nonneg _).trans (h 0)
    have hR : ∀ R : ℕ, R < 64 * 8 → R % 4 = r.val % 4 → eabs (mgL W S A B u R (128 * p + l.val)) ≤ y := fun R hR hm => by
      rw [key R _ hR hm rfl]
      exact h ⟨R / 4, by omega⟩
    exact ⟨⟨h0, fun R hR' hm => hR R hR' (by omega)⟩, ⟨h0, fun R hR' hm => hR R hR' (by have : R % 8 = (r.val + 4) % 8 := hm; omega)⟩⟩

theorem Ins.ub_r_9 (h : Ins c arg1 arg2 arg3 arg4 f1 f2 f3 f4 W S A B) (k : Fin k0_t1_loop.trips) : UB W S A B k.val 0 1 (r_9 (F := Ideal) c arg1 arg2 arg3 arg4 arg7 k0_pay153 k0_pay154 k0_pay155 k f1 f2 f3 f4 f7) :=
  UB_step (o1 := 0) (o2 := 0) k.val 0 0 (by decide) (by decide) rfl rfl (h.cs0 k) (h.ss k) (h.dl0 k _ _) (UB_zero k.val 0 _ zero13) (m00 _ _ _ _ _ _)

theorem Ins.ub_r_14 (h : Ins c arg1 arg2 arg3 arg4 f1 f2 f3 f4 W S A B) (k : Fin k0_t1_loop.trips) : UB W S A B k.val 0 2 (r_14 (F := Ideal) c arg1 arg2 arg3 arg4 arg7 k0_pay153 k0_pay154 k0_pay155 k f1 f2 f3 f4 f7) :=
  UB_step (o1 := 64) (o2 := 0) k.val 1 0 (by decide) (by decide) rfl rfl (h.cs0 k) (h.ss k) (h.dl1 k _ _) (h.ub_r_9 k) (m10 _ _ _ _ _ _)

theorem Ins.ub_r_21 (h : Ins c arg1 arg2 arg3 arg4 f1 f2 f3 f4 W S A B) (k : Fin k0_t1_loop.trips) : UB W S A B k.val 0 3 (r_21 (F := Ideal) c arg1 arg2 arg3 arg4 arg7 k0_pay153 k0_pay154 k0_pay155 k f1 f2 f3 f4 f7) :=
  UB_step (o1 := 128) (o2 := 0) k.val 2 0 (by decide) (by decide) rfl rfl (h.cs0 k) (h.ss k) (h.dl2 k _ _) (h.ub_r_14 k) (m20 _ _ _ _ _ _)

theorem Ins.ub_r_28 (h : Ins c arg1 arg2 arg3 arg4 f1 f2 f3 f4 W S A B) (k : Fin k0_t1_loop.trips) : UB W S A B k.val 0 4 (r_28 (F := Ideal) c arg1 arg2 arg3 arg4 arg7 k0_pay153 k0_pay154 k0_pay155 k f1 f2 f3 f4 f7) :=
  UB_step (o1 := 192) (o2 := 0) k.val 3 0 (by decide) (by decide) rfl rfl (h.cs0 k) (h.ss k) (h.dl3 k _ _) (h.ub_r_21 k) (m30 _ _ _ _ _ _)

theorem Ins.ub_r_35 (h : Ins c arg1 arg2 arg3 arg4 f1 f2 f3 f4 W S A B) (k : Fin k0_t1_loop.trips) : UB W S A B k.val 0 5 (r_35 (F := Ideal) c arg1 arg2 arg3 arg4 arg7 k0_pay153 k0_pay154 k0_pay155 k f1 f2 f3 f4 f7) :=
  UB_step (o1 := 256) (o2 := 0) k.val 4 0 (by decide) (by decide) rfl rfl (h.cs0 k) (h.ss k) (h.dl4 k _ _) (h.ub_r_28 k) (m40 _ _ _ _ _ _)

theorem Ins.ub_r_40 (h : Ins c arg1 arg2 arg3 arg4 f1 f2 f3 f4 W S A B) (k : Fin k0_t1_loop.trips) : UB W S A B k.val 0 6 (r_40 (F := Ideal) c arg1 arg2 arg3 arg4 arg7 k0_pay153 k0_pay154 k0_pay155 k f1 f2 f3 f4 f7) :=
  UB_step (o1 := 320) (o2 := 0) k.val 5 0 (by decide) (by decide) rfl rfl (h.cs0 k) (h.ss k) (h.dl5 k _ _) (h.ub_r_35 k) (m50 _ _ _ _ _ _)

theorem Ins.ub_r_47 (h : Ins c arg1 arg2 arg3 arg4 f1 f2 f3 f4 W S A B) (k : Fin k0_t1_loop.trips) : UB W S A B k.val 0 7 (r_47 (F := Ideal) c arg1 arg2 arg3 arg4 arg7 k0_pay153 k0_pay154 k0_pay155 k f1 f2 f3 f4 f7) :=
  UB_step (o1 := 384) (o2 := 0) k.val 6 0 (by decide) (by decide) rfl rfl (h.cs0 k) (h.ss k) (h.dl6 k _ _) (h.ub_r_40 k) (m60 _ _ _ _ _ _)

theorem Ins.ub_r_11 (h : Ins c arg1 arg2 arg3 arg4 f1 f2 f3 f4 W S A B) (k : Fin k0_t1_loop.trips) : UB W S A B k.val 1 1 (r_11 (F := Ideal) c arg1 arg2 arg3 arg4 arg7 k0_pay153 k0_pay154 k0_pay155 k f1 f2 f3 f4 f7) :=
  UB_step (o1 := 0) (o2 := 128) k.val 0 1 (by decide) (by decide) rfl rfl (h.cs1 k) (h.ss k) (h.r_8 k) (UB_zero k.val 1 _ zero14) (m01 _ _ _ _)

theorem Ins.ub_r_18 (h : Ins c arg1 arg2 arg3 arg4 f1 f2 f3 f4 W S A B) (k : Fin k0_t1_loop.trips) : UB W S A B k.val 1 2 (r_18 (F := Ideal) c arg1 arg2 arg3 arg4 arg7 k0_pay153 k0_pay154 k0_pay155 k f1 f2 f3 f4 f7) :=
  UB_step (o1 := 64) (o2 := 128) k.val 1 1 (by decide) (by decide) rfl rfl (h.cs1 k) (h.ss k) (h.dl1 k _ _) (h.ub_r_11 k) (m11 _ _ _ _ _ _)

theorem Ins.ub_r_24 (h : Ins c arg1 arg2 arg3 arg4 f1 f2 f3 f4 W S A B) (k : Fin k0_t1_loop.trips) : UB W S A B k.val 1 3 (r_24 (F := Ideal) c arg1 arg2 arg3 arg4 arg7 k0_pay153 k0_pay154 k0_pay155 k f1 f2 f3 f4 f7) :=
  UB_step (o1 := 128) (o2 := 128) k.val 2 1 (by decide) (by decide) rfl rfl (h.cs1 k) (h.ss k) (h.r_19 k) (h.ub_r_18 k) (m21 _ _ _ _)

theorem Ins.ub_r_29 (h : Ins c arg1 arg2 arg3 arg4 f1 f2 f3 f4 W S A B) (k : Fin k0_t1_loop.trips) : UB W S A B k.val 1 4 (r_29 (F := Ideal) c arg1 arg2 arg3 arg4 arg7 k0_pay153 k0_pay154 k0_pay155 k f1 f2 f3 f4 f7) :=
  UB_step (o1 := 192) (o2 := 128) k.val 3 1 (by decide) (by decide) rfl rfl (h.cs1 k) (h.ss k) (h.r_25 k) (h.ub_r_24 k) (m31 _ _ _ _)

theorem Ins.ub_r_37 (h : Ins c arg1 arg2 arg3 arg4 f1 f2 f3 f4 W S A B) (k : Fin k0_t1_loop.trips) : UB W S A B k.val 1 5 (r_37 (F := Ideal) c arg1 arg2 arg3 arg4 arg7 k0_pay153 k0_pay154 k0_pay155 k f1 f2 f3 f4 f7) :=
  UB_step (o1 := 256) (o2 := 128) k.val 4 1 (by decide) (by decide) rfl rfl (h.cs1 k) (h.ss k) (h.r_34 k) (h.ub_r_29 k) (m41 _ _ _ _)

theorem Ins.ub_r_44 (h : Ins c arg1 arg2 arg3 arg4 f1 f2 f3 f4 W S A B) (k : Fin k0_t1_loop.trips) : UB W S A B k.val 1 6 (r_44 (F := Ideal) c arg1 arg2 arg3 arg4 arg7 k0_pay153 k0_pay154 k0_pay155 k f1 f2 f3 f4 f7) :=
  UB_step (o1 := 320) (o2 := 128) k.val 5 1 (by decide) (by decide) rfl rfl (h.cs1 k) (h.ss k) (h.dl5 k _ _) (h.ub_r_37 k) (m51 _ _ _ _ _ _)

theorem Ins.ub_r_50 (h : Ins c arg1 arg2 arg3 arg4 f1 f2 f3 f4 W S A B) (k : Fin k0_t1_loop.trips) : UB W S A B k.val 1 7 (r_50 (F := Ideal) c arg1 arg2 arg3 arg4 arg7 k0_pay153 k0_pay154 k0_pay155 k f1 f2 f3 f4 f7) :=
  UB_step (o1 := 384) (o2 := 128) k.val 6 1 (by decide) (by decide) rfl rfl (h.cs1 k) (h.ss k) (h.r_45 k) (h.ub_r_44 k) (m61 _ _ _ _)

theorem Ins.ub_r_54 (h : Ins c arg1 arg2 arg3 arg4 f1 f2 f3 f4 W S A B) (k : Fin k0_t1_loop.trips) : UB W S A B k.val 1 8 (r_54 (F := Ideal) c arg1 arg2 arg3 arg4 arg7 k0_pay153 k0_pay154 k0_pay155 k f1 f2 f3 f4 f7) :=
  UB_step (o1 := 448) (o2 := 128) k.val 7 1 (by decide) (by decide) rfl rfl (h.cs1 k) (h.ss k) (h.r_51 k) (h.ub_r_50 k) (m71 _ _ _ _)

/-- The scale of half 0. -/
theorem Ins.scale0 (h : Ins c arg1 arg2 arg3 arg4 f1 f2 f3 f4 W S A B) (k : Fin k0_t1_loop.trips) (r : Fin 8) (l : Fin 128) :
    (r_55 (F := Ideal) c arg1 arg2 arg3 arg4 arg7 k0_pay153 k0_pay154 k0_pay155 k f1 f2 f3 f4 f7 (ix2 r l) : EReal) = sc W S A B (4 * ((128 * 0 + l.val) % 64) + r.val % 4) (4 * k.val + (128 * 0 + l.val) / 64) := by
  refine (congrFun (m70 _ _ _ _ _ _) (ix2 r l)).trans (scale_of_UB k.val 0 (by decide) ?_ r l)
  exact UB_step (o1 := 448) (o2 := 0) k.val 7 0 (by decide) (by decide) rfl rfl (h.cs0 k) (h.ss k) (h.dl7 k _ _) (h.ub_r_47 k) rfl

/-- The scale of half 1. -/
theorem Ins.scale1 (h : Ins c arg1 arg2 arg3 arg4 f1 f2 f3 f4 W S A B) (k : Fin k0_t1_loop.trips) (r : Fin 8) (l : Fin 128) :
    scv (r_54 (F := Ideal) c arg1 arg2 arg3 arg4 arg7 k0_pay153 k0_pay154 k0_pay155 k f1 f2 f3 f4 f7) (ix2 r l) = sc W S A B (4 * ((128 * 1 + l.val) % 64) + r.val % 4) (4 * k.val + (128 * 1 + l.val) / 64) :=
  scale_of_UB k.val 1 (by decide) (h.ub_r_54 k) r l

end Cert.Proof.Val

end
-- ==== Proof.Val.Codes.lean ====
/-
  The packed codes of one trip (untrusted, hand-written): every word stored into the code scratch buffer holds four codes, and
  the bytes stored into the output block hold two.
-/
module

public import proofs.«01_k».proof.Proof.Val.Scales

@[expose] public section

set_option maxRecDepth 16384

noncomputable section

namespace Cert.Proof.Val

open Cert.KernelIdeal Cert.KernelIdeal.Gen
open Idealize.ShloMosaic Idealize.ShloMosaic.TcCoe
open Cert.Proof.PI (Cts)
open Cert.Proof.PI.trip.sl

variable {W : ℕ → ℕ → BitVec 8} {S A B : ℕ → ℕ → EReal}

variable {c : Dev nD}
    {arg1 : Memref sig .tc .vmem S1x128x5120 .i8} {arg2 : Memref sig .tc .vmem S1x10x16x256 .bf16}
    {arg3 : Memref sig .tc .vmem S1x8x5120 .bf16} {arg4 : Memref sig .tc .vmem S1x128x256 .bf16}
    {f1 : Cts Ideal c arg1} {f2 : Cts Ideal c arg2} {f3 : Cts Ideal c arg3} {f4 : Cts Ideal c arg4}
    {arg7 : Memref sig .tc .vmem S256x2x128 .bf16} {f7 : Cts Ideal c arg7}
    {arg8 : Memref sig .tc .vmem S512x256 .f32} {arg9 : Memref sig .tc .vmem S2x128x128 .i16}

/-- The sixteen stores cover the weight scratch buffer. -/
theorem H8_cover (k : Fin k0_t1_loop.trips) (y : S512x256.Idx) : ∃ p ∈ H8_16 (F := Ideal) c arg1 arg2 arg3 arg4 arg7 k0_pay153 k0_pay154 k0_pay155 k f1 f2 f3 f4 f7, y ∈ p.1.set := by
  have h0 : (y 0).val < 512 := (y 0).isLt
  have h1 : (y 1).val < 256 := (y 1).isLt
  have key : ∀ (o1 o2 : ℕ) (inb : ∀ a, (![o1, o2] : Fin 2 → ℕ) a + S64x128.size a ≤ S512x256.size a), o1 ≤ (y 0).val → (y 0).val < o1 + 64 →
      o2 ≤ (y 1).val → (y 1).val < o2 + 128 → y ∈ (Rect.unit (s := S512x256) ![o1, o2] S64x128.size inb).set := fun o1 o2 inb a b c d =>
    Rect.mem_set_unit.mpr fun x => match x with | ⟨0, _⟩ => ⟨a, b⟩ | ⟨1, _⟩ => ⟨c, d⟩
  rcases Nat.lt_or_ge (y 1).val 128 with hp | hp
  · rcases Nat.lt_or_ge (y 0).val 64 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), key 0 0 inb_S512x256_S64x128_0_0 (by omega) (by omega) (by omega) (by omega)⟩
    rcases Nat.lt_or_ge (y 0).val 128 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), key 64 0 inb_S512x256_S64x128_64_0 (by omega) (by omega) (by omega) (by omega)⟩
    rcases Nat.lt_or_ge (y 0).val 192 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), key 128 0 inb_S512x256_S64x128_128_0 (by omega) (by omega) (by omega) (by omega)⟩
    rcases Nat.lt_or_ge (y 0).val 256 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), key 192 0 inb_S512x256_S64x128_192_0 (by omega) (by omega) (by omega) (by omega)⟩
    rcases Nat.lt_or_ge (y 0).val 320 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 256 0 inb_S512x256_S64x128_256_0 (by omega) (by omega) (by omega) (by omega)⟩
    rcases Nat.lt_or_ge (y 0).val 384 with hr | hr
    · exact ⟨_, List.mem_cons_of_mem _ (List.mem_cons_of_mem _ (List.mem_cons_of_mem _ (List.mem_cons_of_mem _ (List.mem_cons_of_mem _ (List.mem_cons_self))))), key 320 0 inb_S512x256_S64x128_320_0 (by omega) (by omega) (by omega) (by omega)⟩
    rcases Nat.lt_or_ge (y 0).val 448 with hr | hr
    · exact ⟨_, List.mem_cons_of_mem _ (List.mem_cons_of_mem _ (List.mem_cons_of_mem _ (List.mem_cons_self))), key 384 0 inb_S512x256_S64x128_384_0 (by omega) (by omega) (by omega) (by omega)⟩
    exact ⟨_, List.mem_cons_of_mem _ (List.mem_cons_self), key 448 0 inb_S512x256_S64x128_448_0 (by omega) (by omega) (by omega) (by omega)⟩
  · rcases Nat.lt_or_ge (y 0).val 64 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), key 0 128 inb_S512x256_S64x128_0_128 (by omega) (by omega) (by omega) (by omega)⟩
    rcases Nat.lt_or_ge (y 0).val 128 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), key 64 128 inb_S512x256_S64x128_64_128 (by omega) (by omega) (by omega) (by omega)⟩
    rcases Nat.lt_or_ge (y 0).val 192 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), key 128 128 inb_S512x256_S64x128_128_128 (by omega) (by omega) (by omega) (by omega)⟩
    rcases Nat.lt_or_ge (y 0).val 256 with hr | hr
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), key 192 128 inb_S512x256_S64x128_192_128 (by omega) (by omega) (by omega) (by omega)⟩
    rcases Nat.lt_or_ge (y 0).val 320 with hr | hr
    · exact ⟨_, List.mem_cons_of_mem _ (List.mem_cons_of_mem _ (List.mem_cons_of_mem _ (List.mem_cons_of_mem _ (List.mem_cons_of_mem _ (List.mem_cons_of_mem _ (List.mem_cons_self)))))), key 256 128 inb_S512x256_S64x128_256_128 (by omega) (by omega) (by omega) (by omega)⟩
    rcases Nat.lt_or_ge (y 0).val 384 with hr | hr
    · exact ⟨_, List.mem_cons_of_mem _ (List.mem_cons_of_mem _ (List.mem_cons_of_mem _ (List.mem_cons_of_mem _ (List.mem_cons_self)))), key 320 128 inb_S512x256_S64x128_320_128 (by omega) (by omega) (by omega) (by omega)⟩
    rcases Nat.lt_or_ge (y 0).val 448 with hr | hr
    · exact ⟨_, List.mem_cons_of_mem _ (List.mem_cons_of_mem _ (List.mem_cons_self)), key 384 128 inb_S512x256_S64x128_384_128 (by omega) (by omega) (by omega) (by omega)⟩
    exact ⟨_, List.mem_cons_self, key 448 128 inb_S512x256_S64x128_448_128 (by omega) (by omega) (by omega) (by omega)⟩

/-- A load of sixty-four rows and one half of the weight scratch buffer. -/
theorem Ins.m_load (h : Ins c arg1 arg2 arg3 arg4 f1 f2 f3 f4 W S A B) (k : Fin k0_t1_loop.trips) (i p : ℕ) {o1 o2 : ℕ} (e1 : o1 = 64 * i) (e2 : o2 = 128 * p)
    (inb : ∀ a, (![o1, o2] : Fin 2 → ℕ) a + S64x128.size a ≤ S512x256.size a) (r : Fin 64) (l : Fin 128) :
    (arg8.view.readCov (H8_16 (F := Ideal) c arg1 arg2 arg3 arg4 arg7 k0_pay153 k0_pay154 k0_pay155 k f1 f2 f3 f4 f7) (Rect.unit (s := S512x256) ![o1, o2] S64x128.size inb).toLoadRect (ix2 r l) : EReal)
      = mgL W S A B k.val (64 * i + r.val) (128 * p + l.val) := by
  rw [View.readCov_eq_canon']
  refine (View.canon_apply_of_pieces (G8 W S A B k.val) _ (H8_pieces h k).mem _ (H8_cover k _)).trans ?_
  unfold G8
  refine congrArg₂ (mgL W S A B k.val) ?_ ?_
  · show o1 + 1 * r.val = _
    omega
  · show o2 + 1 * l.val = _
    omega

/-- The code scratch buffer's contents after the trip's sixteen stores. -/
def G9 (W : ℕ → ℕ → BitVec 8) (S A B : ℕ → ℕ → EReal) (u : ℕ) (y : S2x128x128.Idx) : BitVec 16 :=
  word fun c => q4 W S A B (4 * ((128 * (y 0).val + (y 2).val) % 64) + c) (512 * u + 128 * ((128 * (y 0).val + (y 2).val) / 64) + (y 1).val)

/-- What the scales of half `p` are. -/
def IsScale (W : ℕ → ℕ → BitVec 8) (S A B : ℕ → ℕ → EReal) (u p : ℕ) (s : FVec Ideal S8x128 .f32) : Prop := ∀ (r : Fin 8) (l : Fin 128),
  (s (ix2 r l) : EReal) = sc W S A B (4 * ((128 * p + l.val) % 64) + r.val % 4) (4 * u + (128 * p + l.val) / 64)

/-- A quantised and packed tile is a block of the code scratch buffer's contents. -/
theorem qpack_piece (u i p : ℕ) (hi : i < 8) (hp : p < 2) {o : ℕ} (e : o = 16 * i) {s r : FVec Ideal S8x128 .f32} (hs : IsScale W S A B u p s)
    (hr : r = rcp (Ideal.ofBits .f32 0x3F800000#32) s) {x : FVec Ideal S64x128 .f32}
    (hx : ∀ (R : Fin 64) (l : Fin 128), (x (ix2 R l) : EReal) = mgL W S A B u (64 * i + R.val) (128 * p + l.val)) {w : IVec S1x16x128 16} (hw : w = qpack r x)
    (inb : ∀ a, (![p, o, 0] : Fin 3 → ℕ) a + S1x16x128.size a ≤ S2x128x128.size a) (z : S1x16x128.Idx) :
    w z = G9 W S A B u ((Rect.unit (s := S2x128x128) ![p, o, 0] S1x16x128.size inb).emb z) := by
  obtain ⟨rq, l, rfl⟩ : ∃ (rq : Fin 16) (l : Fin 128), z = ix3 0 rq l :=
    ⟨z 1, z 2, (eq_ix3 z).trans (congrArg (fun a : Fin 1 => ix3 a (z 1) (z 2)) (Subsingleton.elim _ _))⟩
  have hl := l.isLt
  have hrq := rq.isLt
  have hG : G9 W S A B u ((Rect.unit (s := S2x128x128) ![p, o, 0] S1x16x128.size inb).emb (ix3 0 rq l))
      = word fun c => q4 W S A B (4 * ((128 * p + l.val) % 64) + c) (512 * u + 128 * ((128 * p + l.val) / 64) + (16 * i + rq.val)) := by
    unfold G9
    have a0 : (((Rect.unit (s := S2x128x128) ![p, o, 0] S1x16x128.size inb).emb (ix3 0 rq l)) 0).val = p := by show p + 1 * 0 = p; omega
    have a1 : (((Rect.unit (s := S2x128x128) ![p, o, 0] S1x16x128.size inb).emb (ix3 0 rq l)) 1).val = 16 * i + rq.val := by show o + 1 * rq.val = _; omega
    have a2 : (((Rect.unit (s := S2x128x128) ![p, o, 0] S1x16x128.size inb).emb (ix3 0 rq l)) 2).val = l.val := by show 0 + 1 * l.val = _; omega
    rw [a0, a1, a2]
  rw [hG, hw]
  refine BitVec.eq_of_getLsbD_eq fun q hq => ?_
  obtain ⟨c, b, hc, hb, rfl⟩ : ∃ c b, c < 4 ∧ b < 4 ∧ q = 4 * c + b := ⟨q / 4, q % 4, by omega, by omega, by omega⟩
  rw [word_getLsbD _ c b hc hb, qpack_getLsbD r x rq l c b hc hb ⟨4 * rq.val + c, by omega⟩ rfl ⟨(4 * rq.val + c) % 8, by omega⟩ rfl, hx, hr, rcp_apply, hs, one_eq]
  have e1 : (4 * rq.val + c) % 8 % 4 = c := by omega
  have e2 : (64 * i + (4 * rq.val + c)) % 4 = c := by omega
  have e3 : (64 * i + (4 * rq.val + c)) / 4 = 16 * i + rq.val := by omega
  unfold mgL
  simp only [e1, e2, e3]
  exact congrArg (fun z : BitVec 4 => z.getLsbD b) (qk_eq_q4 W S A B _ _ _ (16 * i + rq.val) (by omega) (by omega))

/-- Every store of half 0 into the code scratch buffer is a block of the packed codes. -/
theorem H9_pieces0 (h : Ins c arg1 arg2 arg3 arg4 f1 f2 f3 f4 W S A B) (k : Fin k0_t1_loop.trips) :
    View.PiecesOf (G9 W S A B k.val) (H9_8 (F := Ideal) c arg1 arg2 arg3 arg4 arg7 arg8 k0_pay153 k0_pay154 k0_pay155 k f1 f2 f3 f4 f7) :=
  ⟨fun z => qpack_piece (o := 112) k.val 7 0 (by decide) (by decide) rfl (h.scale0 k) (rec0 _) (h.m_load (o1 := 448) (o2 := 0) k 7 0 rfl rfl _) (q07 _ _) inb_S2x128x128_S1x16x128_0_112_0 z,
    fun z => qpack_piece (o := 96) k.val 6 0 (by decide) (by decide) rfl (h.scale0 k) (rec0 _) (h.m_load (o1 := 384) (o2 := 0) k 6 0 rfl rfl _) (q06 _ _) inb_S2x128x128_S1x16x128_0_96_0 z,
    fun z => qpack_piece (o := 80) k.val 5 0 (by decide) (by decide) rfl (h.scale0 k) (rec0 _) (h.m_load (o1 := 320) (o2 := 0) k 5 0 rfl rfl _) (q05 _ _) inb_S2x128x128_S1x16x128_0_80_0 z,
    fun z => qpack_piece (o := 64) k.val 4 0 (by decide) (by decide) rfl (h.scale0 k) (rec0 _) (h.m_load (o1 := 256) (o2 := 0) k 4 0 rfl rfl _) (q04 _ _) inb_S2x128x128_S1x16x128_0_64_0 z,
    fun z => qpack_piece (o := 48) k.val 3 0 (by decide) (by decide) rfl (h.scale0 k) (rec0 _) (h.m_load (o1 := 192) (o2 := 0) k 3 0 rfl rfl _) (q03 _ _) inb_S2x128x128_S1x16x128_0_48_0 z,
    fun z => qpack_piece (o := 32) k.val 2 0 (by decide) (by decide) rfl (h.scale0 k) (rec0 _) (h.m_load (o1 := 128) (o2 := 0) k 2 0 rfl rfl _) (q02 _ _) inb_S2x128x128_S1x16x128_0_32_0 z,
    fun z => qpack_piece (o := 16) k.val 1 0 (by decide) (by decide) rfl (h.scale0 k) (rec0 _) (h.m_load (o1 := 64) (o2 := 0) k 1 0 rfl rfl _) (q01 _ _) inb_S2x128x128_S1x16x128_0_16_0 z,
    fun z => qpack_piece (o := 0) k.val 0 0 (by decide) (by decide) rfl (h.scale0 k) rfl (h.m_load (o1 := 0) (o2 := 0) k 0 0 rfl rfl _) (q00 _ _) inb_S2x128x128_S1x16x128_0_0_0 z, trivial⟩

/-- So is every store of half 1. -/
theorem H9_pieces1 (h : Ins c arg1 arg2 arg3 arg4 f1 f2 f3 f4 W S A B) (k : Fin k0_t1_loop.trips) :
    View.PiecesOf (G9 W S A B k.val) (H9_16 (F := Ideal) c arg1 arg2 arg3 arg4 arg7 arg8 k0_pay153 k0_pay154 k0_pay155 k f1 f2 f3 f4 f7) :=
  ⟨fun z => qpack_piece (o := 112) k.val 7 1 (by decide) (by decide) rfl (h.scale1 k) (rec1 _) (h.m_load (o1 := 448) (o2 := 128) k 7 1 rfl rfl _) (q17 _ _) inb_S2x128x128_S1x16x128_1_112_0 z,
    fun z => qpack_piece (o := 96) k.val 6 1 (by decide) (by decide) rfl (h.scale1 k) (rec1 _) (h.m_load (o1 := 384) (o2 := 128) k 6 1 rfl rfl _) (q16 _ _) inb_S2x128x128_S1x16x128_1_96_0 z,
    fun z => qpack_piece (o := 80) k.val 5 1 (by decide) (by decide) rfl (h.scale1 k) (rec1 _) (h.m_load (o1 := 320) (o2 := 128) k 5 1 rfl rfl _) (q15 _ _) inb_S2x128x128_S1x16x128_1_80_0 z,
    fun z => qpack_piece (o := 64) k.val 4 1 (by decide) (by decide) rfl (h.scale1 k) (rec1 _) (h.m_load (o1 := 256) (o2 := 128) k 4 1 rfl rfl _) (q14 _ _) inb_S2x128x128_S1x16x128_1_64_0 z,
    fun z => qpack_piece (o := 48) k.val 3 1 (by decide) (by decide) rfl (h.scale1 k) (rec1 _) (h.m_load (o1 := 192) (o2 := 128) k 3 1 rfl rfl _) (q13 _ _) inb_S2x128x128_S1x16x128_1_48_0 z,
    fun z => qpack_piece (o := 32) k.val 2 1 (by decide) (by decide) rfl (h.scale1 k) (rec1 _) (h.m_load (o1 := 128) (o2 := 128) k 2 1 rfl rfl _) (q12 _ _) inb_S2x128x128_S1x16x128_1_32_0 z,
    fun z => qpack_piece (o := 16) k.val 1 1 (by decide) (by decide) rfl (h.scale1 k) (rec1 _) (h.m_load (o1 := 64) (o2 := 128) k 1 1 rfl rfl _) (q11 _ _) inb_S2x128x128_S1x16x128_1_16_0 z,
    fun z => qpack_piece (o := 0) k.val 0 1 (by decide) (by decide) rfl (h.scale1 k) rfl (h.m_load (o1 := 0) (o2 := 128) k 0 1 rfl rfl _) (q10 _ _) inb_S2x128x128_S1x16x128_1_0_0 z, H9_pieces0 h k⟩

theorem H9_cover0 (k : Fin k0_t1_loop.trips) (y : S2x128x128.Idx) (hy : (y 0).val = 0) : ∃ p ∈ H9_8 (F := Ideal) c arg1 arg2 arg3 arg4 arg7 arg8 k0_pay153 k0_pay154 k0_pay155 k f1 f2 f3 f4 f7, y ∈ p.1.set := by
  have h1 : (y 1).val < 128 := (y 1).isLt
  have h2 : (y 2).val < 128 := (y 2).isLt
  have key : ∀ (o : ℕ) (inb : ∀ a, (![0, o, 0] : Fin 3 → ℕ) a + S1x16x128.size a ≤ S2x128x128.size a), o ≤ (y 1).val → (y 1).val < o + 16 →
      y ∈ (Rect.unit (s := S2x128x128) ![0, o, 0] S1x16x128.size inb).set := fun o inb a b =>
    Rect.mem_set_unit.mpr fun x => match x with | ⟨0, _⟩ => ⟨hy.ge, show (y 0).val < 0 + 1 by omega⟩ | ⟨1, _⟩ => ⟨a, b⟩ | ⟨2, _⟩ => ⟨Nat.zero_le _, show (y 2).val < 0 + 128 by omega⟩
  rcases Nat.lt_or_ge (y 1).val 16 with hr | hr
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 inb_S2x128x128_S1x16x128_0_0_0 (by omega) (by omega)⟩
  rcases Nat.lt_or_ge (y 1).val 32 with hr | hr
  · exact ⟨_, List.mem_cons_of_mem _ (List.mem_cons_of_mem _ (List.mem_cons_of_mem _ (List.mem_cons_of_mem _ (List.mem_cons_of_mem _ (List.mem_cons_of_mem _ (List.mem_cons_self)))))), key 16 inb_S2x128x128_S1x16x128_0_16_0 (by omega) (by omega)⟩
  rcases Nat.lt_or_ge (y 1).val 48 with hr | hr
  · exact ⟨_, List.mem_cons_of_mem _ (List.mem_cons_of_mem _ (List.mem_cons_of_mem _ (List.mem_cons_of_mem _ (List.mem_cons_of_mem _ (List.mem_cons_self))))), key 32 inb_S2x128x128_S1x16x128_0_32_0 (by omega) (by omega)⟩
  rcases Nat.lt_or_ge (y 1).val 64 with hr | hr
  · exact ⟨_, List.mem_cons_of_mem _ (List.mem_cons_of_mem _ (List.mem_cons_of_mem _ (List.mem_cons_of_mem _ (List.mem_cons_self)))), key 48 inb_S2x128x128_S1x16x128_0_48_0 (by omega) (by omega)⟩
  rcases Nat.lt_or_ge (y 1).val 80 with hr | hr
  · exact ⟨_, List.mem_cons_of_mem _ (List.mem_cons_of_mem _ (List.mem_cons_of_mem _ (List.mem_cons_self))), key 64 inb_S2x128x128_S1x16x128_0_64_0 (by omega) (by omega)⟩
  rcases Nat.lt_or_ge (y 1).val 96 with hr | hr
  · exact ⟨_, List.mem_cons_of_mem _ (List.mem_cons_of_mem _ (List.mem_cons_self)), key 80 inb_S2x128x128_S1x16x128_0_80_0 (by omega) (by omega)⟩
  rcases Nat.lt_or_ge (y 1).val 112 with hr | hr
  · exact ⟨_, List.mem_cons_of_mem _ (List.mem_cons_self), key 96 inb_S2x128x128_S1x16x128_0_96_0 (by omega) (by omega)⟩
  exact ⟨_, List.mem_cons_self, key 112 inb_S2x128x128_S1x16x128_0_112_0 (by omega) (by omega)⟩

/-- The load of half 0 of the code scratch buffer. -/
theorem Ins.q_load0 (h : Ins c arg1 arg2 arg3 arg4 f1 f2 f3 f4 W S A B) (k : Fin k0_t1_loop.trips) (x l : Fin 128) : (v1239 (F := Ideal) c arg1 arg2 arg3 arg4 arg7 arg8 arg9 k0_pay153 k0_pay154 k0_pay155 k f1 f2 f3 f4 f7 (ix3 0 x l) : BitVec 16)
    = word fun c => q4 W S A B (4 * ((128 * 0 + l.val) % 64) + c) (512 * k.val + 128 * ((128 * 0 + l.val) / 64) + x.val) := by
  have e := View.readCov_eq_canon' arg9.view (H9_8 (F := Ideal) c arg1 arg2 arg3 arg4 arg7 arg8 k0_pay153 k0_pay154 k0_pay155 k f1 f2 f3 f4 f7) (Rect.unit (s := S2x128x128) ![0, 0, 0] S1x128x128.size inb_S2x128x128_S1x128x128_0_0_0).toLoadRect
  refine (congrFun e (ix3 0 x l)).trans ?_
  refine (View.canon_apply_of_pieces (G9 W S A B k.val) _ (H9_pieces0 h k).mem _ (H9_cover0 k _ rfl)).trans ?_
  unfold G9
  have a1 : ((Rect.unit (s := S2x128x128) ![0, 0, 0] S1x128x128.size inb_S2x128x128_S1x128x128_0_0_0).toLoadRect.idx (ix3 0 x l) 0).val = 0 := rfl
  have a2 : ((Rect.unit (s := S2x128x128) ![0, 0, 0] S1x128x128.size inb_S2x128x128_S1x128x128_0_0_0).toLoadRect.idx (ix3 0 x l) 1).val = x.val := by show 0 + 1 * x.val = x.val; omega
  have a3 : ((Rect.unit (s := S2x128x128) ![0, 0, 0] S1x128x128.size inb_S2x128x128_S1x128x128_0_0_0).toLoadRect.idx (ix3 0 x l) 2).val = l.val := by show 0 + 1 * l.val = l.val; omega
  rw [a1, a2, a3]

theorem H9_cover1 (k : Fin k0_t1_loop.trips) (y : S2x128x128.Idx) (hy : (y 0).val = 1) : ∃ p ∈ H9_16 (F := Ideal) c arg1 arg2 arg3 arg4 arg7 arg8 k0_pay153 k0_pay154 k0_pay155 k f1 f2 f3 f4 f7, y ∈ p.1.set := by
  have h1 : (y 1).val < 128 := (y 1).isLt
  have h2 : (y 2).val < 128 := (y 2).isLt
  have key : ∀ (o : ℕ) (inb : ∀ a, (![1, o, 0] : Fin 3 → ℕ) a + S1x16x128.size a ≤ S2x128x128.size a), o ≤ (y 1).val → (y 1).val < o + 16 →
      y ∈ (Rect.unit (s := S2x128x128) ![1, o, 0] S1x16x128.size inb).set := fun o inb a b =>
    Rect.mem_set_unit.mpr fun x => match x with | ⟨0, _⟩ => ⟨hy.ge, show (y 0).val < 1 + 1 by omega⟩ | ⟨1, _⟩ => ⟨a, b⟩ | ⟨2, _⟩ => ⟨Nat.zero_le _, show (y 2).val < 0 + 128 by omega⟩
  rcases Nat.lt_or_ge (y 1).val 16 with hr | hr
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key 0 inb_S2x128x128_S1x16x128_1_0_0 (by omega) (by omega)⟩
  rcases Nat.lt_or_ge (y 1).val 32 with hr | hr
  · exact ⟨_, List.mem_cons_of_mem _ (List.mem_cons_of_mem _ (List.mem_cons_of_mem _ (List.mem_cons_of_mem _ (List.mem_cons_of_mem _ (List.mem_cons_of_mem _ (List.mem_cons_self)))))), key 16 inb_S2x128x128_S1x16x128_1_16_0 (by omega) (by omega)⟩
  rcases Nat.lt_or_ge (y 1).val 48 with hr | hr
  · exact ⟨_, List.mem_cons_of_mem _ (List.mem_cons_of_mem _ (List.mem_cons_of_mem _ (List.mem_cons_of_mem _ (List.mem_cons_of_mem _ (List.mem_cons_self))))), key 32 inb_S2x128x128_S1x16x128_1_32_0 (by omega) (by omega)⟩
  rcases Nat.lt_or_ge (y 1).val 64 with hr | hr
  · exact ⟨_, List.mem_cons_of_mem _ (List.mem_cons_of_mem _ (List.mem_cons_of_mem _ (List.mem_cons_of_mem _ (List.mem_cons_self)))), key 48 inb_S2x128x128_S1x16x128_1_48_0 (by omega) (by omega)⟩
  rcases Nat.lt_or_ge (y 1).val 80 with hr | hr
  · exact ⟨_, List.mem_cons_of_mem _ (List.mem_cons_of_mem _ (List.mem_cons_of_mem _ (List.mem_cons_self))), key 64 inb_S2x128x128_S1x16x128_1_64_0 (by omega) (by omega)⟩
  rcases Nat.lt_or_ge (y 1).val 96 with hr | hr
  · exact ⟨_, List.mem_cons_of_mem _ (List.mem_cons_of_mem _ (List.mem_cons_self)), key 80 inb_S2x128x128_S1x16x128_1_80_0 (by omega) (by omega)⟩
  rcases Nat.lt_or_ge (y 1).val 112 with hr | hr
  · exact ⟨_, List.mem_cons_of_mem _ (List.mem_cons_self), key 96 inb_S2x128x128_S1x16x128_1_96_0 (by omega) (by omega)⟩
  exact ⟨_, List.mem_cons_self, key 112 inb_S2x128x128_S1x16x128_1_112_0 (by omega) (by omega)⟩

/-- The load of half 1 of the code scratch buffer. -/
theorem Ins.q_load1 (h : Ins c arg1 arg2 arg3 arg4 f1 f2 f3 f4 W S A B) (k : Fin k0_t1_loop.trips) (x l : Fin 128) : (v1642 (F := Ideal) c arg1 arg2 arg3 arg4 arg7 arg8 arg9 k0_pay153 k0_pay154 k0_pay155 k f1 f2 f3 f4 f7 (ix3 0 x l) : BitVec 16)
    = word fun c => q4 W S A B (4 * ((128 * 1 + l.val) % 64) + c) (512 * k.val + 128 * ((128 * 1 + l.val) / 64) + x.val) := by
  have e := View.readCov_eq_canon' arg9.view (H9_16 (F := Ideal) c arg1 arg2 arg3 arg4 arg7 arg8 k0_pay153 k0_pay154 k0_pay155 k f1 f2 f3 f4 f7) (Rect.unit (s := S2x128x128) ![1, 0, 0] S1x128x128.size inb_S2x128x128_S1x128x128_1_0_0).toLoadRect
  refine (congrFun e (ix3 0 x l)).trans ?_
  refine (View.canon_apply_of_pieces (G9 W S A B k.val) _ (H9_pieces1 h k).mem _ (H9_cover1 k _ rfl)).trans ?_
  unfold G9
  have a1 : ((Rect.unit (s := S2x128x128) ![1, 0, 0] S1x128x128.size inb_S2x128x128_S1x128x128_1_0_0).toLoadRect.idx (ix3 0 x l) 0).val = 1 := rfl
  have a2 : ((Rect.unit (s := S2x128x128) ![1, 0, 0] S1x128x128.size inb_S2x128x128_S1x128x128_1_0_0).toLoadRect.idx (ix3 0 x l) 1).val = x.val := by show 0 + 1 * x.val = x.val; omega
  have a3 : ((Rect.unit (s := S2x128x128) ![1, 0, 0] S1x128x128.size inb_S2x128x128_S1x128x128_1_0_0).toLoadRect.idx (ix3 0 x l) 2).val = l.val := by show 0 + 1 * l.val = l.val; omega
  rw [a1, a2, a3]

end Cert.Proof.Val

end
-- ==== Proof.Val.Keep.lean ====
/-
  The stores of one trip into the two output blocks (untrusted, hand-written): the bytes are the packed codes and the numbers
  the scales, so after the last trip both blocks are the specification's.
-/
module

public import proofs.«01_k».proof.Proof.Val.Codes
public import proofs.«01_k».proof.Proof.Ideal.Kernel

@[expose] public section

set_option maxRecDepth 16384

noncomputable section

namespace Cert.Proof.Val

open Cert.KernelIdeal Cert.KernelIdeal.Gen
open Idealize.ShloMosaic Idealize.ShloMosaic.TcCoe
open Cert.Proof.PI (Cts Keeps trip)
open Cert.Proof.PI.trip.sl

variable {W : ℕ → ℕ → BitVec 8} {S A B : ℕ → ℕ → EReal}

/-- The packed output block. -/
def G5 (W : ℕ → ℕ → BitVec 8) (S A B : ℕ → ℕ → EReal) (y : S1x128x5120.Idx) : BitVec 8 := out W S A B (y 1).val (y 2).val

/-- The scale output block: row `r`, lane `L` of unit `u` hold the scale of weight row `4 (L % 64) + r % 4`, group `4 u + L / 64`. -/
def G6 (W : ℕ → ℕ → BitVec 8) (S A B : ℕ → ℕ → EReal) (y : S1x10x8x256.Idx) : EReal :=
  sc W S A B (4 * ((y 3).val % 64) + (y 2).val % 4) (4 * (y 1).val + (y 3).val / 64)

/-- A byte unpacked from the words of quarter `o / 64` holds the codes of two neighbouring rows. -/
theorem byte_eq (u p t : ℕ) (hp : p < 2) (ht : t < 2) {Q : Vec Ideal S1x128x128 .i16}
    (hQ : ∀ x l : Fin 128, (Q (ix3 0 x l) : BitVec 16)
      = word fun c => q4 W S A B (4 * ((128 * p + l.val) % 64) + c) (512 * u + 128 * ((128 * p + l.val) / 64) + x.val))
    {b : BitVec 8} (y x l : Fin 128) (hl : l.val = 64 * t + y.val / 2)
    (hb : ∀ q, q < 8 → b.getLsbD q = (Q (ix3 0 x l) : BitVec 16).getLsbD (8 * (y.val % 2) + q)) :
    b = out W S A B y.val (512 * u + 128 * (2 * p + t) + x.val) := by
  have hy := y.isLt
  refine BitVec.eq_of_getLsbD_eq fun q hq => ?_
  rw [hb q hq, hQ]
  have e1 : 8 * (y.val % 2) + q = 4 * (2 * (y.val % 2) + q / 4) + q % 4 := by omega
  have e2 : q = 4 * (q / 4) + q % 4 := by omega
  rw [e1, word_getLsbD _ _ _ (by omega) (by omega)]
  conv_rhs => rw [e2]
  rw [out_getLsbD W S A B _ _ _ _ (by omega) (by omega)]
  have e3 : 4 * ((128 * p + l.val) % 64) + (2 * (y.val % 2) + q / 4) = 2 * y.val + q / 4 := by omega
  have e4 : 512 * u + 128 * ((128 * p + l.val) / 64) + x.val = 512 * u + 128 * (2 * p + t) + x.val := by omega
  rw [e3, e4]

theorem pay3_eq (Q : Vec Ideal S1x128x128 .i16) : k0_pay3 (k0_pay151 (F := Ideal) Q) = k0_pay128 (k0_pay125 (F := Ideal) Q) := rfl
theorem pay2_eq (Q : Vec Ideal S1x128x128 .i16) : k0_pay2 (k0_pay152 (F := Ideal) Q) = k0_pay127 (k0_pay126 (F := Ideal) Q) := rfl

/-- The index of an output-byte piece. -/
theorem G5_emb (u T : ℕ) {off : Fin 3 → ℕ} (e : off = ![0, 0, 512 * u + 128 * T]) (inb) (y x : Fin 128) :
    G5 W S A B ((Rect.unit (s := S1x128x5120) off S1x128x128.size inb).emb (ix3 0 y x)) = out W S A B y.val (512 * u + 128 * T + x.val) := by
  subst e
  unfold G5
  have a1 : ((Rect.unit (s := S1x128x5120) ![0, 0, 512 * u + 128 * T] S1x128x128.size inb).emb (ix3 0 y x) 1).val = y.val := by show 0 + 1 * y.val = _; omega
  have a2 : ((Rect.unit (s := S1x128x5120) ![0, 0, 512 * u + 128 * T] S1x128x128.size inb).emb (ix3 0 y x) 2).val = 512 * u + 128 * T + x.val := by
    show 512 * u + 128 * T + 1 * x.val = _; omega
  rw [a1, a2]

theorem lo_piece (u p : ℕ) (hp : p < 2) {off : Fin 3 → ℕ} (e : off = ![0, 0, 512 * u + 128 * (2 * p)]) {Q : Vec Ideal S1x128x128 .i16}
    (hQ : ∀ x l : Fin 128, (Q (ix3 0 x l) : BitVec 16)
      = word fun c => q4 W S A B (4 * ((128 * p + l.val) % 64) + c) (512 * u + 128 * ((128 * p + l.val) / 64) + x.val))
    (inb) (z : S1x128x128.Idx) :
    k0_pay127 (k0_pay126 (F := Ideal) Q) z = G5 W S A B ((Rect.unit (s := S1x128x5120) off S1x128x128.size inb).emb z) := by
  obtain ⟨y, x, rfl⟩ : ∃ (y : Fin 128) (x : Fin 128), z = ix3 0 y x :=
    ⟨z 1, z 2, (eq_ix3 z).trans (congrArg (fun a : Fin 1 => ix3 a (z 1) (z 2)) (Subsingleton.elim _ _))⟩
  rw [G5_emb u (2 * p) e inb y x]
  have hy := y.isLt
  exact byte_eq u p 0 hp (by decide) hQ y x ⟨y.val / 2, by omega⟩ (by simp)
    (fun q hq => outlo_getLsbD Q y x q hq ⟨y.val / 2, by omega⟩ rfl)

theorem hi_piece (u p : ℕ) (hp : p < 2) {off : Fin 3 → ℕ} (e : off = ![0, 0, 512 * u + 128 * (2 * p + 1)]) {Q : Vec Ideal S1x128x128 .i16}
    (hQ : ∀ x l : Fin 128, (Q (ix3 0 x l) : BitVec 16)
      = word fun c => q4 W S A B (4 * ((128 * p + l.val) % 64) + c) (512 * u + 128 * ((128 * p + l.val) / 64) + x.val))
    (inb) (z : S1x128x128.Idx) :
    k0_pay128 (k0_pay125 (F := Ideal) Q) z = G5 W S A B ((Rect.unit (s := S1x128x5120) off S1x128x128.size inb).emb z) := by
  obtain ⟨y, x, rfl⟩ : ∃ (y : Fin 128) (x : Fin 128), z = ix3 0 y x :=
    ⟨z 1, z 2, (eq_ix3 z).trans (congrArg (fun a : Fin 1 => ix3 a (z 1) (z 2)) (Subsingleton.elim _ _))⟩
  rw [G5_emb u (2 * p + 1) e inb y x]
  have hy := y.isLt
  exact byte_eq u p 1 hp (by decide) hQ y x ⟨64 + y.val / 2, by omega⟩ (by simp)
    (fun q hq => outhi_getLsbD Q y x q hq ⟨64 + y.val / 2, by omega⟩ rfl)

/-- A block of scales stored is a block of the scale output. -/
theorem sc_piece (u p : ℕ) {off : Fin 4 → ℕ} (e : off = ![0, u, 0, 128 * p]) {s : FVec Ideal S8x128 .f32} (hs : IsScale W S A B u p s)
    (inb) (z : S1x1x8x128.Idx) :
    (shapeCast S1x1x8x128 s shapeCasts_S8x128_S1x1x8x128 z : EReal) = G6 W S A B ((Rect.unit (s := S1x10x8x256) off S1x1x8x128.size inb).emb z) := by
  obtain ⟨r, l, rfl⟩ : ∃ (r : Fin 8) (l : Fin 128), z = ix4 0 0 r l :=
    ⟨z 2, z 3, (eq_ix4 z).trans (congrArg₂ (fun (a b : Fin 1) => ix4 a b (z 2) (z 3)) (Subsingleton.elim _ _) (Subsingleton.elim _ _))⟩
  rw [shapeCast_apply s _ _ (ix2 r l) (by simp [Shape.rowMajor_val_two, Shape.rowMajor_val_four, ix2, ix4])]
  refine (hs r l).trans ?_
  subst e
  unfold G6
  have a1 : ((Rect.unit (s := S1x10x8x256) ![0, u, 0, 128 * p] S1x1x8x128.size inb).emb (ix4 0 0 r l) 1).val = u := by show u + 1 * 0 = _; omega
  have a2 : ((Rect.unit (s := S1x10x8x256) ![0, u, 0, 128 * p] S1x1x8x128.size inb).emb (ix4 0 0 r l) 2).val = r.val := by show 0 + 1 * r.val = _; omega
  have a3 : ((Rect.unit (s := S1x10x8x256) ![0, u, 0, 128 * p] S1x1x8x128.size inb).emb (ix4 0 0 r l) 3).val = 128 * p + l.val := by show 128 * p + 1 * l.val = _; omega
  rw [a1, a2, a3]

variable {c : Dev nD}
    {arg1 : Memref sig .tc .vmem S1x128x5120 .i8} {arg2 : Memref sig .tc .vmem S1x10x16x256 .bf16}
    {arg3 : Memref sig .tc .vmem S1x8x5120 .bf16} {arg4 : Memref sig .tc .vmem S1x128x256 .bf16}
    {f1 : Cts Ideal c arg1} {f2 : Cts Ideal c arg2} {f3 : Cts Ideal c arg3} {f4 : Cts Ideal c arg4}

/-- What holds of the two output blocks before trip `k`: everything the earlier trips wrote is the specification's. -/
def Upto (W : ℕ → ℕ → BitVec 8) (S A B : ℕ → ℕ → EReal) {c : Dev nD}
    (arg5 : Memref sig .tc .vmem S1x128x5120 .i8) (arg6 : Memref sig .tc .vmem S1x10x8x256 .f32) (k : ℕ) (f5 : Cts Ideal c arg5) (f6 : Cts Ideal c arg6) : Prop :=
  (∀ y : S1x128x5120.Idx, (y 2).val < 512 * k → arg5.view.read (Elt Ideal) f5 y = G5 W S A B y)
    ∧ ∀ y : S1x10x8x256.Idx, (y 1).val < k → arg6.view.read (Elt Ideal) f6 y = G6 W S A B y

/-- One trip takes it to the next. -/
theorem Ins.keeps (h : Ins c arg1 arg2 arg3 arg4 f1 f2 f3 f4 W S A B) (i : grid0.Coords) (harg1 harg2 harg3 harg4)
    (arg5 : Memref sig .tc .vmem S1x128x5120 .i8) (harg5 : arg5.IsWhole) (arg6 : Memref sig .tc .vmem S1x10x8x256 .f32) (harg6 : arg6.IsWhole)
    (arg7 : Memref sig .tc .vmem S256x2x128 .bf16) (harg7 : arg7.IsWhole) (arg8 : Memref sig .tc .vmem S512x256 .f32) (harg8 : arg8.IsWhole)
    (arg9 : Memref sig .tc .vmem S2x128x128 .i16) (harg9 : arg9.IsWhole) :
    Keeps (F := Ideal) c i arg1 harg1 arg2 harg2 arg3 harg3 arg4 harg4 arg5 harg5 arg6 harg6 arg7 harg7 arg8 harg8 arg9 harg9
      k0_pay153 k0_pay154 k0_pay155 f1 f2 f3 f4 (Upto W S A B arg5 arg6) := by
  intro k f5 f6 f7 f8 f9 hk
  refine ⟨fun y hy => ?_, fun y hy => ?_⟩
  · set L := (trip (F := Ideal) c i arg1 harg1 arg2 harg2 arg3 harg3 arg4 harg4 arg5 harg5 arg6 harg6 arg7 harg7 arg8 harg8 arg9 harg9 k0_pay153 k0_pay154 k0_pay155 k f1 f2 f3 f4 f7 f8 f9).1 with hL
    have hP : View.PiecesOf (G5 W S A B) L :=
      ⟨fun z => hi_piece k.val 1 (by decide) (off2_3 k) (h.q_load1 k) (k0_off2_inb k 3) z, fun z => lo_piece k.val 1 (by decide) (off2_2 k) (h.q_load1 k) (k0_off2_inb k 2) z,
        fun z => hi_piece k.val 0 (by decide) (off2_1 k) (h.q_load0 k) (k0_off2_inb k 1) z, fun z => lo_piece k.val 0 (by decide) (off2_0 k) (h.q_load0 k) (k0_off2_inb k 0) z, trivial⟩
    by_cases hc : ∃ p ∈ L, y ∈ p.1.set
    · exact View.read_writes_apply_of_pieces _ _ _ L hP.mem y hc
    · refine (View.read_writes_apply_of_forall_not_mem _ _ y L fun p hp hm => hc ⟨p, hp, hm⟩).trans (hk.1 y ?_)
      by_contra hge
      apply hc
      have h1 : (y 1).val < 128 := (y 1).isLt
      have key : ∀ (T : ℕ) (off : Fin 3 → ℕ) (inb : ∀ a, off a + S1x128x128.size a ≤ S1x128x5120.size a), off = ![0, 0, 512 * k.val + T] →
          512 * k.val + T ≤ (y 2).val → (y 2).val < 512 * k.val + T + 128 → y ∈ (Rect.unit (s := S1x128x5120) off S1x128x128.size inb).set := by
        intro T off inb e a b
        subst e
        exact Rect.mem_set_unit.mpr fun x => match x with
          | ⟨0, _⟩ => ⟨Nat.zero_le _, show (y 0).val < 0 + 1 from (y 0).isLt⟩
          | ⟨1, _⟩ => ⟨Nat.zero_le _, show (y 1).val < 0 + 128 by omega⟩
          | ⟨2, _⟩ => ⟨a, b⟩
      rcases Nat.lt_or_ge (y 2).val (512 * k.val + 128) with hr | hr
      · exact ⟨_, List.mem_cons_of_mem _ (List.mem_cons_of_mem _ (List.mem_cons_of_mem _ List.mem_cons_self)), key 0 _ (k0_off2_inb k 0) (off2_0 k) (by omega) (by omega)⟩
      rcases Nat.lt_or_ge (y 2).val (512 * k.val + 256) with hr | hr
      · exact ⟨_, List.mem_cons_of_mem _ (List.mem_cons_of_mem _ List.mem_cons_self), key 128 _ (k0_off2_inb k 1) (off2_1 k) (by omega) (by omega)⟩
      rcases Nat.lt_or_ge (y 2).val (512 * k.val + 384) with hr | hr
      · exact ⟨_, List.mem_cons_of_mem _ List.mem_cons_self, key 256 _ (k0_off2_inb k 2) (off2_2 k) (by omega) (by omega)⟩
      exact ⟨_, List.mem_cons_self, key 384 _ (k0_off2_inb k 3) (off2_3 k) (by omega) (by omega)⟩
  · set L := (trip (F := Ideal) c i arg1 harg1 arg2 harg2 arg3 harg3 arg4 harg4 arg5 harg5 arg6 harg6 arg7 harg7 arg8 harg8 arg9 harg9 k0_pay153 k0_pay154 k0_pay155 k f1 f2 f3 f4 f7 f8 f9).2.1 with hL
    have hP : View.PiecesOf (Val := Elt Ideal) (s := S1x10x8x256) (e := .f32) (G6 W S A B) L :=
      ⟨fun z => sc_piece k.val 1 (off5_eq k) (h.scale1 k) (k0_off5_inb k) z, fun z => sc_piece k.val 0 (off4_eq k) (h.scale0 k) (k0_off4_inb k) z, trivial⟩
    by_cases hc : ∃ p ∈ L, y ∈ p.1.set
    · exact View.read_writes_apply_of_pieces _ _ _ L hP.mem y hc
    · refine (View.read_writes_apply_of_forall_not_mem _ _ y L fun p hp hm => hc ⟨p, hp, hm⟩).trans (hk.2 y ?_)
      by_contra hge
      apply hc
      have h2 : (y 2).val < 8 := (y 2).isLt
      have h3 : (y 3).val < 256 := (y 3).isLt
      have key : ∀ (T : ℕ) (off : Fin 4 → ℕ) (inb : ∀ a, off a + S1x1x8x128.size a ≤ S1x10x8x256.size a), off = ![0, k.val, 0, T] →
          T ≤ (y 3).val → (y 3).val < T + 128 → y ∈ (Rect.unit (s := S1x10x8x256) off S1x1x8x128.size inb).set := by
        intro T off inb e a b
        subst e
        exact Rect.mem_set_unit.mpr fun x => match x with
          | ⟨0, _⟩ => ⟨Nat.zero_le _, show (y 0).val < 0 + 1 from (y 0).isLt⟩
          | ⟨1, _⟩ => ⟨show k.val ≤ (y 1).val by omega, show (y 1).val < k.val + 1 by omega⟩
          | ⟨2, _⟩ => ⟨Nat.zero_le _, show (y 2).val < 0 + 8 by omega⟩
          | ⟨3, _⟩ => ⟨a, b⟩
      rcases Nat.lt_or_ge (y 3).val 128 with hr | hr
      · exact ⟨_, List.mem_cons_of_mem _ List.mem_cons_self, key 0 _ (k0_off4_inb k) (off4_eq k) (by omega) (by omega)⟩
      exact ⟨_, List.mem_cons_self, key 128 _ (k0_off5_inb k) (off5_eq k) (by omega) (by omega)⟩

end Cert.Proof.Val

end
-- ==== Proof.Val.Exact.lean ====
/-
  The idealized kernel's run with its two output blocks at the specification's values (untrusted, hand-written), and what
  the two results are after it.
-/
module

public import proofs.«01_k».proof.Proof.Val.Keep
public import proofs.«01_k».proof.Proof.Val.Host
public import proofs.«01_k».proof.Proof.Ideal.Frame

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Proof.PI (body_run)

local notation "𝕄" => MT nD τ sig Unit (Elt Ideal) ℕ (UR sig nD τ) ℕ

/-- Four input blocks are what the specification's functions say. -/
structure Blk (x1 : Vec Ideal S1x128x5120 .i8) (x2 : Vec Ideal S1x10x16x256 .bf16) (x3 : Vec Ideal S1x8x5120 .bf16) (x4 : Vec Ideal S1x128x256 .bf16)
    (W : ℕ → ℕ → BitVec 8) (S A B : ℕ → ℕ → EReal) : Prop where
  w : ∀ (y : Fin 128) (d : Fin 5120), x1 (ix3 0 y d) = W y.val d.val
  s : ∀ (u : Fin 10) (r : Fin 16) (L : Fin 256), (x2 (ix4 0 u r L) : EReal) = S (4 * (L.val % 64) + r.val % 4) (4 * u.val + L.val / 64)
  a : ∀ (j : Fin 8) (d : Fin 5120), (x3 (ix3 0 j d) : EReal) = A j.val d.val
  b : ∀ (j : Fin 128) (L : Fin 256), (x4 (ix3 0 j L) : EReal) = (B (4 * (L.val % 64) + j.val / 32) (j.val % 8) * 2)
    * (if j.val % 32 / 8 = L.val / 64 then (1 : EReal) else 0)

/-- The body on whole memrefs: the inputs' read contents stay, the outputs end at the
    specification's values and the scratch buffers at some contents. -/
theorem sound_kernel (c : Dev nD) (i : grid0.Coords) (E : Set ℕ)
    (arg1 : Memref sig .tc .vmem S1x128x5120 .i8) (harg1 : arg1.IsWhole) (arg2 : Memref sig .tc .vmem S1x10x16x256 .bf16) (harg2 : arg2.IsWhole)
    (arg3 : Memref sig .tc .vmem S1x8x5120 .bf16) (harg3 : arg3.IsWhole) (arg4 : Memref sig .tc .vmem S1x128x256 .bf16) (harg4 : arg4.IsWhole)
    (arg5 : Memref sig .tc .vmem S1x128x5120 .i8) (harg5 : arg5.IsWhole) (arg6 : Memref sig .tc .vmem S1x10x8x256 .f32) (harg6 : arg6.IsWhole)
    (arg7 : Memref sig .tc .vmem S256x2x128 .bf16) (harg7 : arg7.IsWhole) (arg8 : Memref sig .tc .vmem S512x256 .f32) (harg8 : arg8.IsWhole)
    (arg9 : Memref sig .tc .vmem S2x128x128 .i16) (harg9 : arg9.IsWhole)
    (x1 : Vec Ideal S1x128x5120 .i8) (x2 : Vec Ideal S1x10x16x256 .bf16) (x3 : Vec Ideal S1x8x5120 .bf16) (x4 : Vec Ideal S1x128x256 .bf16)
    {W : ℕ → ℕ → BitVec 8} {S A B : ℕ → ℕ → EReal} (hx : Blk x1 x2 x3 x4 W S A B)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
        ∗ owns (c : Thread nD τ) arg5 fullShare (G5 W S A B) ∗ owns (c : Thread nD τ) arg6 fullShare (G6 W S A B)
        ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := Ideal)) Variants.none c none) E
          (cc0_lora_merge_int4 (F := Ideal) i arg1 harg1 arg2 harg2 arg3 harg3 arg4 harg4 arg5 harg5 arg6 harg6 arg7 harg7 arg8 harg8 arg9 harg9) K := by
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  iapply (wp_wand_r Idealize.ShloMosaic.frame (wpE (defs₀ (F := Ideal)) Variants.none (c : Thread nD τ) none) E)
  isplitr [Hk]
  · iapply (body_run (F := Ideal) c i arg1 harg1 arg2 harg2 arg3 harg3 arg4 harg4 arg5 harg5 arg6 harg6 arg7 harg7 arg8 harg8 arg9 harg9 E
      f1 f2 f3 f4 (Upto W S A B arg5 arg6) (fun _ _ => ⟨fun _ h => absurd h (Nat.not_lt_zero _), fun _ h => absurd h (Nat.not_lt_zero _)⟩)
      (Ins.keeps ⟨fun y d => (congrFun hf1 _).trans (hx.w y d), fun u r L => (congrFun hf2 _).trans (hx.s u r L), fun j d => (congrFun hf3 _).trans (hx.a j d),
        fun j L => (congrFun hf4 _).trans (hx.b j L)⟩ i harg1 harg2 harg3 harg4 arg5 harg5 arg6 harg6 arg7 harg7 arg8 harg8 arg9 harg9) f5 f6 f7 f8 f9)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %_ ⟨%g5, %g6, %g7, %g8, %g9, %hU, H1, H2, H3, H4, H5, H6, H7, H8, H9⟩
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists g5; isplitr
      · ipureintro
        exact funext fun y => hU.1 y (lt_of_lt_of_eq (y 2).isLt (by decide))
      iexact H5
    isplitl [H6]
    · iexists g6; isplitr
      · ipureintro
        exact funext fun y => hU.2 y (lt_of_lt_of_eq (y 1).isLt (by decide))
      iexact H6
    isplitl [H7]
    · iexists _; iexists g7; isplitr; · ipureintro; rfl
      iexact H7
    isplitl [H8]
    · iexists _; iexists g8; isplitr; · ipureintro; rfl
      iexact H8
    iexists _; iexists g9; isplitr; · ipureintro; rfl
    iexact H9

variable (m : (ℓ : Loc nD τ sig) → Buf (Elt Ideal) ℓ) (ρ : Dev nD → PrngReg)

/-- The specification's functions at a grid point. -/
abbrev Wt (c : Dev nD) (t : Fin cfg0.N) : ℕ → ℕ → BitVec 8 := wOf (m ((c : Thread nD τ).loc main_arg0)) (bt t)
abbrev St (c : Dev nD) (t : Fin cfg0.N) : ℕ → ℕ → EReal := sOf (m ((c : Thread nD τ).loc main_arg1)) (bt t)
abbrev At (c : Dev nD) (t : Fin cfg0.N) : ℕ → ℕ → EReal := aOf (m ((c : Thread nD τ).loc main_arg2)) (bt t)
abbrev Bt (c : Dev nD) (t : Fin cfg0.N) : ℕ → ℕ → EReal := bOf (m ((c : Thread nD τ).loc main_arg3)) (bt t)

theorem blk_at (c : Dev nD) (t : Fin cfg0.N) : Blk (iblk m c 0 t) (iblk m c 1 t) (iblk m c 2 t) (iblk m c 3 t) (Wt m c t) (St m c t) (At m c t) (Bt m c t) :=
  ⟨iblk0 m c t, iblk1 m c t, iblk2 m c t, iblk3 m c t⟩

/-- The proof data: each input's buffer at its block, the two outputs at the specification's values, the scoped rest in the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => G5 (Wt m c t) (St m c t) (At m c t) (Bt m c t)
    | ⟨5, _⟩ => G6 (Wt m c t) (St m c t) (At m c t) (Bt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = G5 (Wt m c t) (St m c t) (At m c t) (Bt m c t) := by dsimp only [dats]
theorem after0_5 (c : Dev nD) (t : Fin cfg0.N) : (dats m 0 c).after 5 t = G6 (Wt m c t) (St m c t) (At m c t) (Bt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  simp only [← owns_whole]
  iintro ⟨⟨⟨HS0, HS1, HS2⟩, HP⟩, Ho, ⟨%d0, H0⟩, ⟨%d1, H1⟩, ⟨%d2, H2⟩, ⟨%d3, H3⟩, ⟨%d4, H4⟩, ⟨%d5, H5⟩⟩
  iapply (sound_kernel c (grid0.coords t) Set.univ _ _ _ _ _ _ _ _ _ _ _ _ _ _ _ _ _ _ (iblk m c 0 t) (iblk m c 1 t) (iblk m c 2 t) (iblk m c 3 t) (blk_at m c t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 HP]
  · isplitl [HS0 HS1 HS2]
    · isplitl [HS0]; · iexact HS0
      isplitl [HS1]; · iexact HS1
      iexact HS2
    · iexact HP
  isplitl [Ho]; · iexact Ho
  isplitl [H0]; · iexact H0
  isplitl [H1]; · iexact H1
  isplitl [H2]; · iexact H2
  isplitl [H3]; · iexact H3
  isplitl [H4]; · iexact H4
  iexact H5

/-- The library's body obligation. -/
theorem body_obligation (c : Dev nD) : BodyObligation (dats m 0 c) (defs₀ (F := Ideal)) Variants.none () Set.univ := fun t => by
  rw [bigSep_W0, bigSep_W0, Cert.Proof.PI.defs₀_row]
  exact triple_restated (sound_body m c t) rfl .rfl fun _ => .rfl

set_option backward.isDefEq.respectTransparency.types false in
/-- The run of @main: the arrays at what the body's blocks make of them, everything else by the tail. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.Val

end
-- ==== Proof.Val.Result.lean ====
/-
  The two results of the idealized kernel (untrusted, hand-written): the output arrays the region leaves, and the second
  result as the host lines after it lay it out.
-/
module

public import proofs.«01_k».proof.Proof.Val.Exact
public import Idealize.ShloMosaic.Lib.Pointwise
public import Idealize.ShloMosaic.Lib.Pipeline.ValueKit

@[expose] public section

set_option maxRecDepth 16384

noncomputable section

namespace Cert.Proof.Val

open Cert.KernelIdeal Cert.KernelIdeal.Gen
open Idealize.ShloMosaic Idealize.ShloMosaic.TcCoe Idealize.SL Idealize.SL.Sem

/-- The packed codes: the first result. -/
def OUT (x0 : IVec S36x128x5120 8) (x1 : FVec Ideal S36x256x40 .bf16) (x2 : FVec Ideal S36x8x5120 .bf16) (x3 : FVec Ideal S36x256x8 .bf16)
    (i : S36x128x5120.Idx) : BitVec 8 :=
  out (wOf x0 (i 0)) (sOf x1 (i 0)) (aOf x2 (i 0)) (bOf x3 (i 0)) (i 1).val (i 2).val

/-- The scales in the region's layout. -/
def SCO (x0 : IVec S36x128x5120 8) (x1 : FVec Ideal S36x256x40 .bf16) (x2 : FVec Ideal S36x8x5120 .bf16) (x3 : FVec Ideal S36x256x8 .bf16)
    (i : S36x10x8x256.Idx) : EReal :=
  sc (wOf x0 (i 0)) (sOf x1 (i 0)) (aOf x2 (i 0)) (bOf x3 (i 0)) (4 * ((i 3).val % 64) + (i 2).val % 4) (4 * (i 1).val + (i 3).val / 64)

/-- The scales: the second result. -/
def SC (x0 : IVec S36x128x5120 8) (x1 : FVec Ideal S36x256x40 .bf16) (x2 : FVec Ideal S36x8x5120 .bf16) (x3 : FVec Ideal S36x256x8 .bf16)
    (i : S36x256x40.Idx) : EReal :=
  sc (wOf x0 (i 0)) (sOf x1 (i 0)) (aOf x2 (i 0)) (bOf x3 (i 0)) (i 1).val (i 2).val

variable (m : (ℓ : Loc nD τ sig) → Buf (Elt Ideal) ℓ) (ρ : Dev nD → PrngReg)

/-- The first output array after the region. -/
theorem arr4 (c : Dev nD) : (dats m 0 c).arrAt 4 cfg0.N = OUT (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, d, rfl⟩ : ∃ (r : Fin 128) (d : Fin 5120), y = ix3 0 r d :=
    ⟨y 1, y 2, (eq_ix3 y).trans (congrArg (fun a : Fin 1 => ix3 a (y 1) (y 2)) (Subsingleton.elim _ _))⟩
  have e : ((win0_4.blk t).view.emb (ix3 0 r d)) = ix3 (bt t) r d := by blk_ext [idx0 t, bt_val t]
  rw [e]
  rfl

/-- The second output array after the region. -/
theorem arr5 (c : Dev nD) : (dats m 0 c).arrAt 5 cfg0.N = SCO (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  obtain ⟨u, r, L, rfl⟩ : ∃ (u : Fin 10) (r : Fin 8) (L : Fin 256), y = ix4 0 u r L :=
    ⟨y 1, y 2, y 3, (eq_ix4 y).trans (congrArg (fun a : Fin 1 => ix4 a (y 1) (y 2) (y 3)) (Subsingleton.elim _ _))⟩
  have e : ((win0_5.blk t).view.emb (ix4 0 u r L)) = ix4 (bt t) u r L := by blk_ext [idx0 t, bt_val t]
  rw [e]
  rfl

/-- The scales as the host lines after the region lay them out. -/
def tailSc (x : FVec Ideal S36x10x8x256 .f32) : FVec Ideal S36x256x40 .bf16 :=
  shapeCast S36x256x40 (transpose S36x64x4x10x4 [0, 4, 2, 1, 3] (shapeCast S36x10x4x4x64
    (truncf (F := Ideal) .bf16 (extractStridedSlice S36x10x4x256 ![0, 0, 0, 0] x slices_S36x10x8x256_S36x10x4x256_0_0_0_0) bitsLt_bf16_f32)
    shapeCasts_S36x10x4x256_S36x10x4x4x64) transposes_S36x10x4x4x64_S36x64x4x10x4_0_4_2_1_3) shapeCasts_S36x64x4x10x4_S36x256x40

theorem tailSc_apply (x : FVec Ideal S36x10x8x256 .f32) (b : Fin 36) (n : Fin 256) (g : Fin 40) :
    (tailSc x (ix3 b n g) : EReal) = x (ix4 b ⟨g.val / 4, by omega⟩ ⟨n.val % 4, by omega⟩ ⟨64 * (g.val % 4) + n.val / 4, by omega⟩) := by
  pointwise [tailSc]
  congr 2
  exact Fin.ext (by show g.val % 4 * 64 + n.val / 4 = 64 * (g.val % 4) + n.val / 4; omega)

theorem tail_v27 (c : Dev nD) : Pipeline.afterTail₀ cfgs (dats m) 0 (V0 m) [hostOps1] c main_v27 = tailSc ((dats m 0 c).arrAt 5 cfg0.N) := by
  unfold Pipeline.afterTail₀
  generalize hX : Pipeline.withArrays (cfgs 0).spec c (V0 m c) (fun w => (dats m 0 c).arrAt w (cfgs 0).N) = X
  have hx : X (Proc.devRef .tc main_v22_1) = (dats m 0 c).arrAt 5 cfg0.N := by
    rw [← hX]
    exact Pipeline.withArrays_arr spec0 launch0.win.arr_inj c (V0 m c) (fun w => (dats m 0 c).arrAt w cfg0.N) 5
  rw [← hx]
  entry_read
  rfl

/-- The second result in the caller's layout is the scales by row and group. -/
theorem tailSc_SCO (x0 : IVec S36x128x5120 8) (x1 : FVec Ideal S36x256x40 .bf16) (x2 : FVec Ideal S36x8x5120 .bf16) (x3 : FVec Ideal S36x256x8 .bf16) :
    tailSc (SCO x0 x1 x2 x3) = SC x0 x1 x2 x3 := by
  funext i
  obtain ⟨b, n, g, rfl⟩ : ∃ (b : Fin 36) (n : Fin 256) (g : Fin 40), i = ix3 b n g := ⟨i 0, i 1, i 2, eq_ix3 i⟩
  refine (tailSc_apply (SCO x0 x1 x2 x3) b n g).trans ?_
  have e1 : 4 * ((64 * (g.val % 4) + n.val / 4) % 64) + (n.val % 4) % 4 = n.val := by omega
  have e2 : 4 * (g.val / 4) + (64 * (g.val % 4) + n.val / 4) / 64 = g.val := by omega
  exact congrArg₂ (fun p q : ℕ => sc (wOf x0 b) (sOf x1 b) (aOf x2 b) (bOf x3 b) p q) e1 e2

/-- The idealized kernel's run: both results by their closed forms, and the arguments unchanged. -/
theorem run_results :
    θ_run defs (onTc (τ := τ) (main (F := Ideal))) ⟨m, fun _ => 0, ρ⟩ (fun r => ∀ c : Dev nD,
      r.2.mem ((c.tc : Thread nD τ).loc main_v22_0) = OUT (m ((c : Thread nD τ).loc main_arg0)) (m ((c : Thread nD τ).loc main_arg1))
        (m ((c : Thread nD τ).loc main_arg2)) (m ((c : Thread nD τ).loc main_arg3))
      ∧ r.2.mem ((c.tc : Thread nD τ).loc main_v27) = SC (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h, -⟩ := h
    refine ⟨((h c).1 4).trans (arr4 m c), ?_,
      ((h c).1 0).trans (((dats m 0 c).arrAt_in 0 rfl _).trans (V_main_arg0 m c)),
      (((h c).2 main_arg1 (Pipeline.mem_restRefs_of main_arg1 (by decide) (by decide))).trans (W_main_arg1 m (dats m) c)),
      ((h c).1 2).trans (((dats m 0 c).arrAt_in 2 rfl _).trans (V_main_arg2 m c)),
      (((h c).2 main_arg3 (Pipeline.mem_restRefs_of main_arg3 (by decide) (by decide))).trans (W_main_arg3 m (dats m) c))⟩
    refine ((h c).2 main_v27 (Pipeline.mem_restRefs_of main_v27 (by decide) (by decide))).trans ((tail_v27 m c).trans ?_)
    rw [arr5]
    exact tailSc_SCO _ _ _ _) (run_main m ρ)

end Cert.Proof.Val

end
-- ==== Proof.Val.RefRun.lean ====
/-
  The reference's run (untrusted, hand-written): both results by the closed forms the kernel's results have.
-/
module

public import proofs.«01_k».proof.Proof.Val.RefQ
public import proofs.«01_k».proof.Proof.Val.Result
public import proofs.«01_k».proof.Proof.Gen.ReferenceIdeal.Run

@[expose] public section

set_option maxRecDepth 16384

noncomputable section

namespace Cert.Proof.Val

open Cert.ReferenceIdeal Cert.ReferenceIdeal.Gen Cert.ReferenceIdeal.Read
open Idealize.ShloMosaic Idealize.ShloMosaic.TcCoe Idealize.SL Idealize.SL.Sem

/-- The reference's first result is the packed codes. -/
theorem ref_OUT (x0 : IVec S36x128x5120 8) (x1 : FVec Ideal S36x256x40 .bf16) (x2 : FVec Ideal S36x8x5120 .bf16) (x3 : FVec Ideal S36x256x8 .bf16) :
    val_main_v53 (F := Ideal) x0 x1 x2 x3 = OUT x0 x1 x2 x3 := by
  funext i
  obtain ⟨b, y, d, rfl⟩ : ∃ (b : Fin 36) (y : Fin 128) (d : Fin 5120), i = ix3 b y d := ⟨i 0, i 1, i 2, eq_ix3 i⟩
  exact ref_v53 x0 x1 x2 x3 b y d

/-- The reference's second result is the scales. -/
theorem ref_SC (x0 : IVec S36x128x5120 8) (x1 : FVec Ideal S36x256x40 .bf16) (x2 : FVec Ideal S36x8x5120 .bf16) (x3 : FVec Ideal S36x256x8 .bf16) :
    val_main_v54 (F := Ideal) x0 x1 x2 x3 = SC x0 x1 x2 x3 := by
  funext i
  obtain ⟨b, n, g, rfl⟩ : ∃ (b : Fin 36) (n : Fin 256) (g : Fin 40), i = ix3 b n g := ⟨i 0, i 1, i 2, eq_ix3 i⟩
  exact ref_v54 x0 x1 x2 x3 b n g

variable (m : (ℓ : Loc nD τ sig) → Buf (Elt Ideal) ℓ) (ρ : Dev nD → PrngReg)

/-- The reference's run: both results by their closed forms, and the arguments unchanged. -/
theorem ref_run :
    θ_run defs (onTc (τ := τ) (main (F := Ideal))) ⟨m, fun _ => 0, ρ⟩ (fun r => ∀ c : Dev nD,
      r.2.mem ((c.tc : Thread nD τ).loc main_v53) = OUT (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v54) = SC (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1.trans ((val_main_v53_eq m c).trans (ref_OUT _ _ _ _)),
      (h c).2.1.trans ((val_main_v54_eq _ _ _ _).trans (ref_SC _ _ _ _)), (h c).2.2⟩) (Cert.ReferenceIdeal.Value.run m ρ)

end Cert.Proof.Val

end
-- ==== Proof.lean ====
/-
  The proof of the certificate's claims (untrusted, hand-written).
-/
module

public import proofs.«01_k».proof.Defs
public import proofs.«01_k».proof.Proof.Bits.Frame
public import proofs.«01_k».proof.Proof.Ideal.Frame
public import proofs.«01_k».proof.Proof.Ref.Read
public import proofs.«01_k».proof.Proof.Val.RefRun
public import proofs.«01_k».proof.Proof.Gen.ReferenceIdeal
public import proofs.«01_k».proof.Proof.Gen.ReferenceIdeal.Run
public import Idealize.ShloMosaic.Lib.Quiescent
public import Idealize.ShloMosaic.Lib.Bf16Pair
public import Idealize.ShloMosaic.Lib.Bf16PairInverse

@[expose] public section

noncomputable section

open Idealize.ShloMosaic Idealize.ShloMosaic.TcCoe Idealize.SL Idealize.SL.Sem

namespace Cert.Proof

theorem frame_p : Cert.quiescent_Kernel := fun m ρ _ => PK.frame m ρ
theorem frame_pi : Cert.quiescent_KernelIdeal := fun m ρ _ => PI.frame m ρ

theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

open Idealize.ShloMosaic.IdealRules.bf16_pair in
/-- The idealized kernel is the kernel's sanctioned idealization: each rewrite's statement by the rule's own proof. -/
theorem preserves : Cert.preserves_Kernel_KernelIdeal :=
  ⟨bufferStatement _ _, packStatement _, statement _ _, statement _ _, selectZeroStatement _, statement _ _⟩

/-- The idealized kernel and the reference, from memories agreeing on the arguments, end with equal packed codes and
    equal scales. -/
theorem algebraic : Cert.algebraic_KernelIdeal_ReferenceIdeal := by
  intro m g m' g' _ hm
  refine ⟨fun c => Val.OUT (m (c.tc.loc Cert.KernelIdeal.main_arg0)) (m (c.tc.loc Cert.KernelIdeal.main_arg1))
      (m (c.tc.loc Cert.KernelIdeal.main_arg2)) (m (c.tc.loc Cert.KernelIdeal.main_arg3)),
    fun c => Val.SC (m (c.tc.loc Cert.KernelIdeal.main_arg0)) (m (c.tc.loc Cert.KernelIdeal.main_arg1))
      (m (c.tc.loc Cert.KernelIdeal.main_arg2)) (m (c.tc.loc Cert.KernelIdeal.main_arg3)), Val.run_results m g, ?_⟩
  refine (θ_run Cert.ReferenceIdeal.defs _ _).mono (fun r h c => ?_) (Val.ref_run m' g')
  obtain ⟨h0, h1, h2⟩ := h c
  obtain ⟨e0, e1, e2, e3⟩ := hm c
  rw [e0, e1, e2, e3] at h0 h1
  exact ⟨h0, h1, h2⟩

theorem claim : Cert.Claim :=
  ⟨Cert.Kernel.Gen.facts, Cert.KernelIdeal.Gen.facts, Cert.ReferenceIdeal.Gen.facts, frame_p, frame_pi, frame_ri, preserves, algebraic⟩

end Cert.Proof

end
